-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1x768x256 : Shape := ⟨3, ![1, 768, 256]⟩
abbrev S1x768x768x128 : Shape := ⟨4, ![1, 768, 768, 128]⟩
abbrev S1x768x3 : Shape := ⟨3, ![1, 768, 3]⟩
abbrev S128x15 : Shape := ⟨2, ![128, 15]⟩
abbrev S128 : Shape := ⟨1, ![128]⟩
abbrev S256 : Shape := ⟨1, ![256]⟩
abbrev S_ : Shape := ⟨0, ![]⟩

class Facts : Prop where
  bcast_S_S1x768x768x128 : S_.BroadcastsInDim S1x768x768x128 (![] : Fin 0 → Fin S1x768x768x128.rank)
  bcast_S_S1x768x3 : S_.BroadcastsInDim S1x768x3 (![] : Fin 0 → Fin S1x768x3.rank)

variable [Facts]

def fn {F : FTy → Type} [FloatOps F] (main_arg0 : FVec F S1x768x256 .f32) (main_arg1 : FVec F S1x768x768x128 .f32) (main_arg2 : FVec F S1x768x3 .f32) (main_arg3 : FVec F S128x15 .f32) (main_arg4 : FVec F S128 .f32) (main_arg5 : FVec F S256 .f32) (main_arg6 : FVec F S256 .f32) (main_arg7 : FVec F S128 .f32) (main_arg8 : FVec F S128 .f32) : IVec S1x768x768x128 1 × IVec S1x768x3 1 :=
  let main_v0 : FVec F S1x768x768x128 .f32 := Host.absf main_arg1
  let main_cst : FVec F S_ .f32 := constant S_ .f32 0x7F800000#32
  let main_v1 : FVec F S1x768x768x128 .f32 := broadcastInDim S1x768x768x128 ![] bcast_S_S1x768x768x128 main_cst
  let main_v2 : IVec S1x768x768x128 1 := cmpf .olt main_v0 main_v1
  let main_v3 : FVec F S1x768x3 .f32 := Host.absf main_arg2
  let main_cst_0 : FVec F S_ .f32 := constant S_ .f32 0x56B5E621#32
  let main_v4 : FVec F S1x768x3 .f32 := broadcastInDim S1x768x3 ![] bcast_S_S1x768x3 main_cst_0
  let main_v5 : IVec S1x768x3 1 := cmpf .ole main_v3 main_v4
  (main_v2, main_v5)
-- ==== Kernel.lean ====
abbrev S1x768x256 : Shape := ⟨3, ![1, 768, 256]⟩
abbrev S1x768x768x128 : Shape := ⟨4, ![1, 768, 768, 128]⟩
abbrev S1x768x3 : Shape := ⟨3, ![1, 768, 3]⟩
abbrev S128x15 : Shape := ⟨2, ![128, 15]⟩
abbrev S128 : Shape := ⟨1, ![128]⟩
abbrev S256 : Shape := ⟨1, ![256]⟩
abbrev S16 : Shape := ⟨1, ![16]⟩
abbrev S768x256 : Shape := ⟨2, ![768, 256]⟩
abbrev S768x768x128 : Shape := ⟨3, ![768, 768, 128]⟩
abbrev S768x3 : Shape := ⟨2, ![768, 3]⟩
abbrev S_ : Shape := ⟨0, ![]⟩
abbrev S8x768 : Shape := ⟨2, ![8, 768]⟩
abbrev S3x768 : Shape := ⟨2, ![3, 768]⟩
abbrev S1 : Shape := ⟨1, ![1]⟩
abbrev S8x32x24 : Shape := ⟨3, ![8, 32, 24]⟩
abbrev S32x8x24 : Shape := ⟨3, ![32, 8, 24]⟩
abbrev S1x8x1x768 : Shape := ⟨4, ![1, 8, 1, 768]⟩
abbrev S1x8x24x768 : Shape := ⟨4, ![1, 8, 24, 768]⟩
abbrev S8x18432 : Shape := ⟨2, ![8, 18432]⟩
abbrev S24x768 : Shape := ⟨2, ![24, 768]⟩
abbrev S18432 : Shape := ⟨1, ![18432]⟩
abbrev S1x18432 : Shape := ⟨2, ![1, 18432]⟩
abbrev S24 : Shape := ⟨1, ![24]⟩
abbrev S24x1 : Shape := ⟨2, ![24, 1]⟩
abbrev S24x18432 : Shape := ⟨2, ![24, 18432]⟩
abbrev S16x128 : Shape := ⟨2, ![16, 128]⟩
abbrev S15x128 : Shape := ⟨2, ![15, 128]⟩
abbrev S128x128 : Shape := ⟨2, ![128, 128]⟩
abbrev S1x256 : Shape := ⟨2, ![1, 256]⟩
abbrev S1x128 : Shape := ⟨2, ![1, 128]⟩
abbrev S16x1 : Shape := ⟨2, ![16, 1]⟩
abbrev S24x256 : Shape := ⟨2, ![24, 256]⟩
abbrev S24x768x128 : Shape := ⟨3, ![24, 768, 128]⟩
abbrev S1x8x24 : Shape := ⟨3, ![1, 8, 24]⟩
abbrev S8x24 : Shape := ⟨2, ![8, 24]⟩
abbrev S16x18432 : Shape := ⟨2, ![16, 18432]⟩
abbrev S16x2304 : Shape := ⟨2, ![16, 2304]⟩
abbrev S2304x128 : Shape := ⟨2, ![2304, 128]⟩
abbrev S3x768x128 : Shape := ⟨3, ![3, 768, 128]⟩

abbrev nBuf : Space → Nat
  | .hbm => 56
  | .vmem => 19
  | .smem => 0
  | _ => 0

abbrev bufTy : (tb : Table) → Fin (tcTables nBuf tb) → BufTy
  | .hbm, ⟨0, _⟩ => ⟨S1x768x256, .f32⟩
  | .hbm, ⟨1, _⟩ => ⟨S1x768x768x128, .f32⟩
  | .hbm, ⟨2, _⟩ => ⟨S1x768x3, .f32⟩
  | .hbm, ⟨3, _⟩ => ⟨S128x15, .f32⟩
  | .hbm, ⟨4, _⟩ => ⟨S128, .f32⟩
  | .hbm, ⟨5, _⟩ => ⟨S256, .f32⟩
  | .hbm, ⟨6, _⟩ => ⟨S256, .f32⟩
  | .hbm, ⟨7, _⟩ => ⟨S128, .f32⟩
  | .hbm, ⟨8, _⟩ => ⟨S128, .f32⟩
  | .hbm, ⟨9, _⟩ => ⟨S16, .f32⟩
  | .hbm, ⟨10, _⟩ => ⟨S16, .f32⟩
  | .hbm, ⟨11, _⟩ => ⟨S768x256, .f32⟩
  | .hbm, ⟨12, _⟩ => ⟨S768x768x128, .f32⟩
  | .hbm, ⟨13, _⟩ => ⟨S768x3, .f32⟩
  | .hbm, ⟨14, _⟩ => ⟨S_, .f32⟩
  | .hbm, ⟨15, _⟩ => ⟨S8x768, .f32⟩
  | .hbm, ⟨16, _⟩ => ⟨S3x768, .f32⟩
  | .hbm, ⟨17, _⟩ => ⟨S_, .i32⟩
  | .hbm, ⟨18, _⟩ => ⟨S1, .i32⟩
  | .hbm, ⟨19, _⟩ => ⟨S8x768, .f32⟩
  | .hbm, ⟨20, _⟩ => ⟨S8x32x24, .f32⟩
  | .hbm, ⟨21, _⟩ => ⟨S32x8x24, .f32⟩
  | .hbm, ⟨22, _⟩ => ⟨S1x8x1x768, .f32⟩
  | .hbm, ⟨23, _⟩ => ⟨S1x8x24x768, .f32⟩
  | .hbm, ⟨24, _⟩ => ⟨S8x18432, .f32⟩
  | .hbm, ⟨25, _⟩ => ⟨S24x768, .i32⟩
  | .hbm, ⟨26, _⟩ => ⟨S18432, .i32⟩
  | .hbm, ⟨27, _⟩ => ⟨S1x18432, .i32⟩
  | .hbm, ⟨28, _⟩ => ⟨S24, .i32⟩
  | .hbm, ⟨29, _⟩ => ⟨S24x1, .i32⟩
  | .hbm, ⟨30, _⟩ => ⟨S24x18432, .i32⟩
  | .hbm, ⟨31, _⟩ => ⟨S24x18432, .i32⟩
  | .hbm, ⟨32, _⟩ => ⟨S24x18432, .i1⟩
  | .hbm, ⟨33, _⟩ => ⟨S24x18432, .f32⟩
  | .hbm, ⟨34, _⟩ => ⟨S_, .f32⟩
  | .hbm, ⟨35, _⟩ => ⟨S16x128, .f32⟩
  | .hbm, ⟨36, _⟩ => ⟨S15x128, .f32⟩
  | .hbm, ⟨37, _⟩ => ⟨S_, .i32⟩
  | .hbm, ⟨38, _⟩ => ⟨S1, .i32⟩
  | .hbm, ⟨39, _⟩ => ⟨S16x128, .f32⟩
  | .hbm, ⟨40, _⟩ => ⟨S128, .f32⟩
  | .hbm, ⟨41, _⟩ => ⟨S_, .i32⟩
  | .hbm, ⟨42, _⟩ => ⟨S1, .i32⟩
  | .hbm, ⟨43, _⟩ => ⟨S16x128, .f32⟩
  | .hbm, ⟨44, _⟩ => ⟨S16x128, .bf16⟩
  | .hbm, ⟨45, _⟩ => ⟨S_, .bf16⟩
  | .hbm, ⟨46, _⟩ => ⟨S128x128, .bf16⟩
  | .hbm, ⟨47, _⟩ => ⟨S1x256, .f32⟩
  | .hbm, ⟨48, _⟩ => ⟨S1x256, .f32⟩
  | .hbm, ⟨49, _⟩ => ⟨S1x128, .f32⟩
  | .hbm, ⟨50, _⟩ => ⟨S16x1, .f32⟩
  | .hbm, ⟨51, _⟩ => ⟨S16x1, .f32⟩
  | .hbm, ⟨52, _⟩ => ⟨S768x256, .f32⟩
  | .hbm, ⟨53, _⟩ => ⟨S768x768x128, .f32⟩
  | .hbm, ⟨54, _⟩ => ⟨S1x768x256, .f32⟩
  | .hbm, ⟨55, _⟩ => ⟨S1x768x768x128, .f32⟩
  | .local _ .vmem, ⟨0, _⟩ => ⟨S24x256, .f32⟩
  | .local _ .vmem, ⟨1, _⟩ => ⟨S24x256, .f32⟩
  | .local _ .vmem, ⟨2, _⟩ => ⟨S24x768x128, .f32⟩
  | .local _ .vmem, ⟨3, _⟩ => ⟨S24x768x128, .f32⟩
  | .local _ .vmem, ⟨4, _⟩ => ⟨S1x8x24, .f32⟩
  | .local _ .vmem, ⟨5, _⟩ => ⟨S1x8x24, .f32⟩
  | .local _ .vmem, ⟨6, _⟩ => ⟨S24x18432, .f32⟩
  | .local _ .vmem, ⟨7, _⟩ => ⟨S8x18432, .f32⟩
  | .local _ .vmem, ⟨8, _⟩ => ⟨S16x128, .bf16⟩
  | .local _ .vmem, ⟨9, _⟩ => ⟨S128x128, .bf16⟩
  | .local _ .vmem, ⟨10, _⟩ => ⟨S1x256, .f32⟩
  | .local _ .vmem, ⟨11, _⟩ => ⟨S1x256, .f32⟩
  | .local _ .vmem, ⟨12, _⟩ => ⟨S1x128, .f32⟩
  | .local _ .vmem, ⟨13, _⟩ => ⟨S16x1, .f32⟩
  | .local _ .vmem, ⟨14, _⟩ => ⟨S16x1, .f32⟩
  | .local _ .vmem, ⟨15, _⟩ => ⟨S24x256, .f32⟩
  | .local _ .vmem, ⟨16, _⟩ => ⟨S24x256, .f32⟩
  | .local _ .vmem, ⟨17, _⟩ => ⟨S24x768x128, .f32⟩
  | .local _ .vmem, ⟨18, _⟩ => ⟨S24x768x128, .f32⟩
  | _, _ => ⟨S1x768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S24x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S24x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S24x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S24x768x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S1x768x256 : Shape := ⟨3, ![1, 768, 256]⟩
abbrev S1x768x768x128 : Shape := ⟨4, ![1, 768, 768, 128]⟩
abbrev S1x768x3 : Shape := ⟨3, ![1, 768, 3]⟩
abbrev S128x15 : Shape := ⟨2, ![128, 15]⟩
abbrev S128 : Shape := ⟨1, ![128]⟩
abbrev S256 : Shape := ⟨1, ![256]⟩
abbrev S1 : Shape := ⟨1, ![1]⟩
abbrev S_ : Shape := ⟨0, ![]⟩
abbrev S1x768 : Shape := ⟨2, ![1, 768]⟩
abbrev S1x768x1 : Shape := ⟨3, ![1, 768, 1]⟩
abbrev S1x1x256 : Shape := ⟨3, ![1, 1, 256]⟩
abbrev S14 : Shape := ⟨1, ![14]⟩
abbrev S15 : Shape := ⟨1, ![15]⟩
abbrev S1x768x1x3 : Shape := ⟨4, ![1, 768, 1, 3]⟩
abbrev S1x1x768x3 : Shape := ⟨4, ![1, 1, 768, 3]⟩
abbrev S1x768x768x3 : Shape := ⟨4, ![1, 768, 768, 3]⟩
abbrev S1x768x768 : Shape := ⟨3, ![1, 768, 768]⟩
abbrev S1x768x768x1 : Shape := ⟨4, ![1, 768, 768, 1]⟩
abbrev S1x1x1x15 : Shape := ⟨4, ![1, 1, 1, 15]⟩
abbrev S1x768x768x15 : Shape := ⟨4, ![1, 768, 768, 15]⟩
abbrev S1x1x1x128 : Shape := ⟨4, ![1, 1, 1, 128]⟩

abbrev nBuf : Space → Nat
  | .hbm => 119
  | .vmem => 0
  | .smem => 0
  | _ => 0

abbrev bufTy : (tb : Table) → Fin (tcTables nBuf tb) → BufTy
  | .hbm, ⟨0, _⟩ => ⟨S1x768x256, .f32⟩
  | .hbm, ⟨1, _⟩ => ⟨S1x768x768x128, .f32⟩
  | .hbm, ⟨2, _⟩ => ⟨S1x768x3, .f32⟩
  | .hbm, ⟨3, _⟩ => ⟨S128x15, .f32⟩
  | .hbm, ⟨4, _⟩ => ⟨S128, .f32⟩
  | .hbm, ⟨5, _⟩ => ⟨S256, .f32⟩
  | .hbm, ⟨6, _⟩ => ⟨S256, .f32⟩
  | .hbm, ⟨7, _⟩ => ⟨S128, .f32⟩
  | .hbm, ⟨8, _⟩ => ⟨S128, .f32⟩
  | .hbm, ⟨9, _⟩ => ⟨S1, .f32⟩
  | .hbm, ⟨10, _⟩ => ⟨S_, .f32⟩
  | .hbm, ⟨11, _⟩ => ⟨S1x768, .f32⟩
  | .hbm, ⟨12, _⟩ => ⟨S1x768x1, .f32⟩
  | .hbm, ⟨13, _⟩ => ⟨S_, .f32⟩
  | .hbm, ⟨14, _⟩ => ⟨S1x768x1, .f32⟩
  | .hbm, ⟨15, _⟩ => ⟨S1x768x1, .f32⟩
  | .hbm, ⟨16, _⟩ => ⟨S1x768x256, .f32⟩
  | .hbm, ⟨17, _⟩ => ⟨S1x768x256, .f32⟩
  | .hbm, ⟨18, _⟩ => ⟨S1x768x256, .f32⟩
  | .hbm, ⟨19, _⟩ => ⟨S_, .f32⟩
  | .hbm, ⟨20, _⟩ => ⟨S1x768, .f32⟩
  | .hbm, ⟨21, _⟩ => ⟨S1x768x1, .f32⟩
  | .hbm, ⟨22, _⟩ => ⟨S_, .f32⟩
  | .hbm, ⟨23, _⟩ => ⟨S1x768x1, .f32⟩
  | .hbm, ⟨24, _⟩ => ⟨S1x768x1, .f32⟩
  | .hbm, ⟨25, _⟩ => ⟨S1x768x256, .f32⟩
  | .hbm, ⟨26, _⟩ => ⟨S1x768x256, .f32⟩
  | .hbm, ⟨27, _⟩ => ⟨S_, .f32⟩
  | .hbm, ⟨28, _⟩ => ⟨S1x768x1, .f32⟩
  | .hbm, ⟨29, _⟩ => ⟨S1x768x1, .f32⟩
  | .hbm, ⟨30, _⟩ => ⟨S1x768x1, .f32⟩
  | .hbm, ⟨31, _⟩ => ⟨S1x768x256, .f32⟩
  | .hbm, ⟨32, _⟩ => ⟨S1x768x256, .f32⟩
  | .hbm, ⟨33, _⟩ => ⟨S1x1x256, .f32⟩
  | .hbm, ⟨34, _⟩ => ⟨S1x768x256, .f32⟩
  | .hbm, ⟨35, _⟩ => ⟨S1x768x256, .f32⟩
  | .hbm, ⟨36, _⟩ => ⟨S1x1x256, .f32⟩
  | .hbm, ⟨37, _⟩ => ⟨S1x768x256, .f32⟩
  | .hbm, ⟨38, _⟩ => ⟨S1x768x256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S14, .f32⟩
  | .hbm, ⟨47, _⟩ => ⟨S_, .f32⟩
  | .hbm, ⟨48, _⟩ => ⟨S14, .f32⟩
  | .hbm, ⟨49, _⟩ => ⟨S14, .f32⟩
  | .hbm, ⟨50, _⟩ => ⟨S1, .f32⟩
  | .hbm, ⟨51, _⟩ => ⟨S_, .f32⟩
  | .hbm, ⟨52, _⟩ => ⟨S14, .f32⟩
  | .hbm, ⟨53, _⟩ => ⟨S14, .f32⟩
  | .hbm, ⟨54, _⟩ => ⟨S14, .f32⟩
  | .hbm, ⟨55, _⟩ => ⟨S14, .f32⟩
  | .hbm, ⟨56, _⟩ => ⟨S1, .f32⟩
  | .hbm, ⟨57, _⟩ => ⟨S14, .f32⟩
  | .hbm, ⟨58, _⟩ => ⟨S14, .f32⟩
  | .hbm, ⟨59, _⟩ => ⟨S14, .f32⟩
  | .hbm, ⟨60, _⟩ => ⟨S1, .f32⟩
  | .hbm, ⟨61, _⟩ => ⟨S15, .f32⟩
  | .hbm, ⟨62, _⟩ => ⟨S15, .f32⟩
  | .hbm, ⟨63, _⟩ => ⟨S14, .f32⟩
  | .hbm, ⟨64, _⟩ => ⟨S15, .f32⟩
  | .hbm, ⟨65, _⟩ => ⟨S1x768x1x3, .f32⟩
  | .hbm, ⟨66, _⟩ => ⟨S1x1x768x3, .f32⟩
  | .hbm, ⟨67, _⟩ => ⟨S1x768x768x3, .f32⟩
  | .hbm, ⟨68, _⟩ => ⟨S1x768x768x3, .f32⟩
  | .hbm, ⟨69, _⟩ => ⟨S1x768x768x3, .f32⟩
  | .hbm, ⟨70, _⟩ => ⟨S1x768x768x3, .f32⟩
  | .hbm, ⟨71, _⟩ => ⟨S_, .f32⟩
  | .hbm, ⟨72, _⟩ => ⟨S1x768x768, .f32⟩
  | .hbm, ⟨73, _⟩ => ⟨S1x768x768x1, .f32⟩
  | .hbm, ⟨74, _⟩ => ⟨S1x1x1x15, .f32⟩
  | .hbm, ⟨75, _⟩ => ⟨S1x768x768x15, .f32⟩
  | .hbm, ⟨76, _⟩ => ⟨S1x768x768x15, .f32⟩
  | .hbm, ⟨77, _⟩ => ⟨S1x768x768x15, .i1⟩
  | .hbm, ⟨78, _⟩ => ⟨S1x768x768x1, .f32⟩
  | .hbm, ⟨79, _⟩ => ⟨S1x1x1x15, .f32⟩
  | .hbm, ⟨80, _⟩ => ⟨S1x768x768x15, .f32⟩
  | .hbm, ⟨81, _⟩ => ⟨S1x768x768x15, .f32⟩
  | .hbm, ⟨82, _⟩ => ⟨S1x768x768x15, .i1⟩
  | .hbm, ⟨83, _⟩ => ⟨S1x768x768x15, .i1⟩
  | .hbm, ⟨84, _⟩ => ⟨S1x768x768x15, .f32⟩
  | .hbm, ⟨85, _⟩ => ⟨S1x768x768x128, .f32⟩
  | .hbm, ⟨86, _⟩ => ⟨S1x1x1x128, .f32⟩
  | .hbm, ⟨87, _⟩ => ⟨S1x768x768x128, .f32⟩
  | .hbm, ⟨88, _⟩ => ⟨S1x768x768x128, .f32⟩
  | .hbm, ⟨89, _⟩ => ⟨S_, .f32⟩
  | .hbm, ⟨90, _⟩ => ⟨S1x768x768, .f32⟩
  | .hbm, ⟨91, _⟩ => ⟨S1x768x768x1, .f32⟩
  | .hbm, ⟨92, _⟩ => ⟨S_, .f32⟩
  | .hbm, ⟨93, _⟩ => ⟨S1x768x768x1, .f32⟩
  | .hbm, ⟨94, _⟩ => ⟨S1x768x768x1, .f32⟩
  | .hbm, ⟨95, _⟩ => ⟨S1x768x768x128, .f32⟩
  | .hbm, ⟨96, _⟩ => ⟨S1x768x768x128, .f32⟩
  | .hbm, ⟨97, _⟩ => ⟨S1x768x768x128, .f32⟩
  | .hbm, ⟨98, _⟩ => ⟨S_, .f32⟩
  | .hbm, ⟨99, _⟩ => ⟨S1x768x768, .f32⟩
  | .hbm, ⟨100, _⟩ => ⟨S1x768x768x1, .f32⟩
  | .hbm, ⟨101, _⟩ => ⟨S_, .f32⟩
  | .hbm, ⟨102, _⟩ => ⟨S1x768x768x1, .f32⟩
  | .hbm, ⟨103, _⟩ => ⟨S1x768x768x1, .f32⟩
  | .hbm, ⟨104, _⟩ => ⟨S1x768x768x128, .f32⟩
  | .hbm, ⟨105, _⟩ => ⟨S1x768x768x128, .f32⟩
  | .hbm, ⟨106, _⟩ => ⟨S_, .f32⟩
  | .hbm, ⟨107, _⟩ => ⟨S1x768x768x1, .f32⟩
  | .hbm, ⟨108, _⟩ => ⟨S1x768x768x1, .f32⟩
  | .hbm, ⟨109, _⟩ => ⟨S1x768x768x1, .f32⟩
  | .hbm, ⟨110, _⟩ => ⟨S1x768x768x128, .f32⟩
  | .hbm, ⟨111, _⟩ => ⟨S1x768x768x128, .f32⟩
  | .hbm, ⟨112, _⟩ => ⟨S1x1x1x128, .f32⟩
  | .hbm, ⟨113, _⟩ => ⟨S1x768x768x128, .f32⟩
  | .hbm, ⟨114, _⟩ => ⟨S1x768x768x128, .f32⟩
  | .hbm, ⟨115, _⟩ => ⟨S1x1x1x128, .f32⟩
  | .hbm, ⟨116, _⟩ => ⟨S1x768x768x128, .f32⟩
  | .hbm, ⟨117, _⟩ => ⟨S1x768x768x128, .f32⟩
  | .hbm, ⟨118, _⟩ => ⟨S1x768x768x128, .f32⟩
  | _, _ => ⟨S1x768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_cst_6 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_cst : Ref sig .tc := ⟨.hbm, 44, rfl⟩
abbrev main_call0_v3 : Ref sig .tc := ⟨.hbm, 45, rfl⟩
abbrev main_call0_v4 : Ref sig .tc := ⟨.hbm, 46, rfl⟩
abbrev main_call0_cst_0 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_v15 : Ref sig .tc := ⟨.hbm, 59, rfl⟩
abbrev main_call0_v16 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_7 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_8 : Ref sig .tc := ⟨.hbm, 89, rfl⟩
abbrev main_v51 : Ref sig .tc := ⟨.hbm, 90, rfl⟩
abbrev main_v52 : Ref sig .tc := ⟨.hbm, 91, rfl⟩
abbrev main_cst_9 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_10 : Ref sig .tc := ⟨.hbm, 98, rfl⟩
abbrev main_v58 : Ref sig .tc := ⟨.hbm, 99, rfl⟩
abbrev main_v59 : Ref sig .tc := ⟨.hbm, 100, rfl⟩
abbrev main_cst_11 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_12 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩

abbrev nD : Nat := 1
abbrev τ : Topo := Topo.v7x

variable {F : FTy → Type} [FloatOps F]
-- ==== Proof.Scatter.lean ====
/- Two scatters that set, read at an entry: a block of whole rows written from row zero, and one row written at a
   row the one index word names. -/
module

public import Idealize.ShloMosaic.Lib.Routing.OpsSet

@[expose] public section

namespace Cert.Scatter

open Idealize.ShloMosaic Idealize.ShloMosaic.ValueIdx Idealize.ShloMosaic.Routing

variable {α : Type} {R C U : Nat}

/-- Update `(r', c')` of a block of rows set from row zero lands at `(r, c)` exactly when the two agree. -/
theorem lands_rows (d : ScatterDims (shape2 R C) (shape1 1) (shape2 U C)) (huw : d.updateWindowDims = [0, 1])
    (hiw : d.insertedWindowDims = []) (hsd : d.scatterDimsToOperandDims = [0]) (idx : IVec (shape1 1) 32)
    (hidx : (idx (ix1 0)).toInt = 0) (r' : Fin U) (c' : Fin C) (r : Fin R) (c : Fin C) :
    d.resultIdx? (ix2 r' c') idx = some (ix2 r c) ↔ r'.val = r.val ∧ c' = c := by
  obtain ⟨uw, iw, sd, iv, wf⟩ := d
  dsimp only at huw hiw hsd
  subst huw hiw hsd
  have hkept : (shape2 R C).kept ([] : List (Fin 2)) = [0, 1] := rfl
  have hwin0 : ScatterDims.window ⟨_, _, _, iv, wf⟩ (ix2 r' c') 0 = r'.val := by
    unfold ScatterDims.window
    rw [dif_pos (by show _ ∈ (shape2 R C).kept _; rw [hkept]; simp)]
    rfl
  have hwin1 : ScatterDims.window ⟨_, _, _, iv, wf⟩ (ix2 r' c') 1 = c'.val := by
    unfold ScatterDims.window
    rw [dif_pos (by show _ ∈ (shape2 R C).kept _; rw [hkept]; simp)]
    rfl
  have hstart1 : ScatterDims.start ⟨_, _, _, iv, wf⟩ (ix2 r' c') idx 1 = 0 := by
    unfold ScatterDims.start
    rw [dif_neg fun h => absurd (List.mem_singleton.1 h) (by decide : (1 : Fin 2) ≠ 0)]
  have hstart0 : ScatterDims.start ⟨_, _, _, iv, wf⟩ (ix2 r' c') idx 0 = 0 := by
    unfold ScatterDims.start
    split
    · refine Eq.trans (congrArg (fun z => (idx z).toInt) ?_) hidx
      funext b
      match b with
      | ⟨0, _⟩ => exact Subsingleton.elim (α := Fin 1) _ _
    · rfl
  rw [Fin.ext_iff, resultIdx?_ix2, hstart0, hwin0, hstart1, hwin1]
  omega

/-- A block of `U` whole rows set from row zero: the block's rows, then the operand's. -/
theorem set_rows (d : ScatterDims (shape2 R C) (shape1 1) (shape2 U C)) (huw : d.updateWindowDims = [0, 1])
    (hiw : d.insertedWindowDims = []) (hsd : d.scatterDimsToOperandDims = [0]) (x : (shape2 R C).Idx → α)
    (idx : IVec (shape1 1) 32) (hidx : (idx (ix1 0)).toInt = 0) (u : (shape2 U C).Idx → α) (r : Fin R) (c : Fin C) :
    Host.scatter d (fun _ b => b) x idx u (ix2 r c)
      = if h : r.val < U then u (ix2 ⟨r.val, h⟩ c) else x (ix2 r c) := by
  have lands : ∀ k, d.resultIdx? k idx = some (ix2 r c) → (k 0).val = r.val ∧ k 1 = c := fun k hk =>
    (lands_rows d huw hiw hsd idx hidx (k 0) (k 1) r c).1
      ((congrArg (fun t => d.resultIdx? t idx) (eq_ix2 k).symm).trans hk)
  by_cases h : r.val < U
  · rw [dif_pos h]
    refine scatter_set_hit d x idx u _ _ (fun k hk => ?_) (ix2 ⟨r.val, h⟩ c)
      ((lands_rows d huw hiw hsd idx hidx _ _ r c).2 ⟨rfl, rfl⟩)
    obtain ⟨h0, h1⟩ := lands k hk
    rw [eq_ix2 k]
    exact congrArg u (congrArg₂ ix2 (Fin.ext h0) h1)
  · rw [dif_neg h]
    refine scatter_set_miss d x idx u _ fun k hk => h ?_
    rw [← (lands k hk).1]
    exact (k 0).isLt

/-- Update `c'` of one row set at row `n` lands at `(r, c)` exactly when the row is `n` and the columns agree. -/
theorem lands_row (d : ScatterDims (shape2 R C) (shape1 1) (shape1 C)) (huw : d.updateWindowDims = [0])
    (hiw : d.insertedWindowDims = [0]) (hsd : d.scatterDimsToOperandDims = [0]) (idx : IVec (shape1 1) 32)
    (n : Fin R) (hidx : (idx (ix1 0)).toInt = (n.val : Int)) (c' : Fin C) (r : Fin R) (c : Fin C) :
    d.resultIdx? (ix1 c') idx = some (ix2 r c) ↔ n = r ∧ c' = c := by
  obtain ⟨uw, iw, sd, iv, wf⟩ := d
  dsimp only at huw hiw hsd
  subst huw hiw hsd
  have hkept : (shape2 R C).kept [(0 : Fin 2)] = [1] := rfl
  have hwin0 : ScatterDims.window ⟨_, _, _, iv, wf⟩ (ix1 c') 0 = 0 := by
    unfold ScatterDims.window
    rw [dif_neg (by show _ ∉ (shape2 R C).kept _; rw [hkept]; simp)]
  have hwin1 : ScatterDims.window ⟨_, _, _, iv, wf⟩ (ix1 c') 1 = c'.val := by
    unfold ScatterDims.window
    rw [dif_pos (by show _ ∈ (shape2 R C).kept _; rw [hkept]; simp)]
    rfl
  have hstart1 : ScatterDims.start ⟨_, _, _, iv, wf⟩ (ix1 c') idx 1 = 0 := by
    unfold ScatterDims.start
    rw [dif_neg fun h => absurd (List.mem_singleton.1 h) (by decide : (1 : Fin 2) ≠ 0)]
  have hstart0 : ScatterDims.start ⟨_, _, _, iv, wf⟩ (ix1 c') idx 0 = (n.val : Int) := by
    unfold ScatterDims.start
    rw [dif_pos (List.mem_singleton.2 rfl)]
    refine Eq.trans (congrArg (fun z => (idx z).toInt) ?_) hidx
    funext b
    match b with
    | ⟨0, _⟩ => exact Subsingleton.elim (α := Fin 1) _ _
  rw [Fin.ext_iff, Fin.ext_iff, resultIdx?_ix2, hstart0, hwin0, hstart1, hwin1]
  omega

/-- One row set at row `n`: that row is the update, the others the operand's. -/
theorem set_row (d : ScatterDims (shape2 R C) (shape1 1) (shape1 C)) (huw : d.updateWindowDims = [0])
    (hiw : d.insertedWindowDims = [0]) (hsd : d.scatterDimsToOperandDims = [0]) (x : (shape2 R C).Idx → α)
    (idx : IVec (shape1 1) 32) (n : Fin R) (hidx : (idx (ix1 0)).toInt = (n.val : Int)) (u : (shape1 C).Idx → α)
    (r : Fin R) (c : Fin C) :
    Host.scatter d (fun _ b => b) x idx u (ix2 r c) = if n = r then u (ix1 c) else x (ix2 r c) := by
  have lands : ∀ k, d.resultIdx? k idx = some (ix2 r c) → n = r ∧ k 0 = c := fun k hk =>
    (lands_row d huw hiw hsd idx n hidx (k 0) r c).1
      ((congrArg (fun t => d.resultIdx? t idx) (eq_ix1 k).symm).trans hk)
  by_cases h : n = r
  · rw [if_pos h]
    refine scatter_set_hit d x idx u _ _ (fun k hk => ?_) (ix1 c)
      ((lands_row d huw hiw hsd idx n hidx _ r c).2 ⟨h, rfl⟩)
    rw [eq_ix1 k]
    exact congrArg u (congrArg ix1 (lands k hk).2)
  · rw [if_neg h]
    exact scatter_set_miss d x idx u _ fun k hk => h (lands k hk).1

end Cert.Scatter
-- ==== Proof.OneHot.lean ====
/- The kernel's table of one-hot rows, read at an index. It has 24 rows and 18432 columns; row `r` holds ones exactly in
   the 768 columns `768 r … 768 r + 767`, and zeros elsewhere. The host builds it by comparing two counts. -/
module

public import proofs.«01_k».proof.Proof.Gen.KernelIdeal.Frame
public import Idealize.ShloMosaic.Lib.Routing.OpsSet
public import Idealize.ShloMosaic.Lib.ValueIdx

@[expose] public section

noncomputable section

namespace Cert.KernelIdeal.Host

open Idealize.ShloMosaic Idealize.ShloMosaic.ValueIdx
open Cert.KernelIdeal.Gen

/-- The number of the row that each column belongs to, along the columns. -/
def columnRow : IVec S24x18432 32 :=
  broadcastInDim S24x18432 ![0, 1] Facts₀.bcast_S1x18432_S24x18432_0_1 (broadcastInDim S1x18432 ![1] Facts₀.bcast_S18432_S1x18432_1
    (shapeCast S18432 (iotaInDim S24x768 32 0) Facts₀.shapeCasts_S24x768_S18432))

/-- The number of each row, along the rows. -/
def rowNumber : IVec S24x18432 32 :=
  broadcastInDim S24x18432 ![0, 1] Facts₀.bcast_S24x1_S24x18432_0_1 (broadcastInDim S24x1 ![0] Facts₀.bcast_S24_S24x1_0
    (iotaInDim S24 32 0))

/-- The table: one where the column belongs to the row. -/
def oneHot : FVec Ideal S24x18432 .f32 := uitofp .f32 (cmpi .eq columnRow rowNumber)

/-- Column `j` belongs to row `j / 768`. -/
theorem columnRow_at (a : Fin 24) (j : Fin 18432) : columnRow (ix2 a j) = BitVec.ofNat 32 (j.val / 768) := by
  unfold columnRow
  rw [broadcastInDim_apply _ _ _ _ (ix2 (0 : Fin 1) j) (fun b => match b with | ⟨0, _⟩ => rfl | ⟨1, _⟩ => rfl),
    broadcastInDim_apply _ _ _ _ (ix1 j) (fun b => match b with | ⟨0, _⟩ => rfl),
    shapeCast_apply _ _ _ (ix2 (⟨j.val / 768, by omega⟩ : Fin 24) (⟨j.val % 768, Nat.mod_lt _ (by decide)⟩ : Fin 768)) (by
      rw [Shape.rowMajor_val_two, Shape.rowMajor_val_one]
      show j.val / 768 * 768 + j.val % 768 = j.val
      omega)]
  rfl

/-- Row `a` has the number `a`. -/
theorem rowNumber_at (a : Fin 24) (j : Fin 18432) : rowNumber (ix2 a j) = BitVec.ofNat 32 a.val := by
  unfold rowNumber
  rw [broadcastInDim_apply _ _ _ _ (ix2 a (0 : Fin 1)) (fun b => match b with | ⟨0, _⟩ => rfl | ⟨1, _⟩ => rfl),
    broadcastInDim_apply _ _ _ _ (ix1 a) (fun b => match b with | ⟨0, _⟩ => rfl)]
  rfl

/-- The table at an index. -/
theorem oneHot_at (a : Fin 24) (j : Fin 18432) :
    oneHot (ix2 a j) = if j.val / 768 = a.val then (1 : EReal) else 0 := by
  have e : oneHot (ix2 a j) = (((BitVec.ofBool (decide (columnRow (ix2 a j) = rowNumber (ix2 a j)))).toNat : ℝ) : EReal) := rfl
  rw [e, columnRow_at, rowNumber_at]
  have hj : j.val / 768 < 2 ^ 32 := by omega
  have ha : a.val < 2 ^ 32 := by omega
  by_cases h : j.val / 768 = a.val
  · rw [if_pos h, h, decide_eq_true rfl]
    rw [show (BitVec.ofBool true).toNat = 1 from rfl]
    norm_num
  · rw [if_neg h, decide_eq_false]
    · rw [show (BitVec.ofBool false).toNat = 0 from rfl]
      norm_num
    · intro hb
      have := congrArg BitVec.toNat hb
      rw [BitVec.toNat_ofNat, BitVec.toNat_ofNat, Nat.mod_eq_of_lt hj, Nat.mod_eq_of_lt ha] at this
      exact h this

end Cert.KernelIdeal.Host

end
-- ==== Proof.Consts.lean ====
/- The float constants that the two programs and the precondition spell, as the extended reals their
   patterns denote. Every other module reads a constant here. -/
module

public import Idealize.ShloMosaic.PureOps.Ideal

@[expose] public section

noncomputable section

namespace Cert.Consts

open Idealize.ShloMosaic

/-- The real that the single-precision pattern nearest to `1e-5` denotes: the epsilon of both normalisations. -/
def eps : ℝ := 10995116 / 1099511627776

/-- The zero pattern denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The bfloat16 pattern of `1.0` denotes `1`. -/
theorem ofBits_one_bf16 : Ideal.ofBits .bf16 0x3F80#16 = 1 := by
  simp [Ideal.ofBits, Ideal.ieee, -EReal.coe_mul]; norm_num

/-- The pattern of `128.0` denotes `128`. -/
theorem ofBits_128 : Ideal.ofBits .f32 0x43000000#32 = ((128 : ℝ) : EReal) := by
  simp [Ideal.ofBits, Ideal.ieee, -EReal.coe_mul]; norm_num

/-- The pattern nearest to `1e-5` denotes `eps`. -/
theorem ofBits_eps : Ideal.ofBits .f32 0x3727C5AC#32 = ((eps : ℝ) : EReal) := by
  simp [Ideal.ofBits, Ideal.ieee, eps, -EReal.coe_mul]; norm_num

/-- The kernel's scaled epsilon is `128 * 128 * eps`, exactly. -/
theorem ofBits_eps_scaled : Ideal.ofBits .f32 0x3E27C5AC#32 = ((16384 * eps : ℝ) : EReal) := by
  simp [Ideal.ofBits, Ideal.ieee, eps, -EReal.coe_mul]; norm_num

/-- The pattern of `-1.0` denotes `-1`. -/
theorem ofBits_neg_one : Ideal.ofBits .f32 0xBF800000#32 = ((-1 : ℝ) : EReal) := by
  simp [Ideal.ofBits, Ideal.ieee, -EReal.coe_mul, -EReal.coe_neg]; norm_num

/-- The pattern of positive infinity denotes `⊤`. -/
theorem ofBits_top : Ideal.ofBits .f32 0x7F800000#32 = ⊤ := by
  simp [Ideal.ofBits, Ideal.ieee]

/-- The pattern of `1e8` denotes `1e8`. -/
theorem ofBits_1e8 : Ideal.ofBits .f32 0x4CBEBC20#32 = ((100000000 : ℝ) : EReal) := by
  simp [Ideal.ofBits, Ideal.ieee, -EReal.coe_mul]; norm_num

/-- The real that the pattern nearest to `1e14` denotes: the precondition's bound on a coordinate. -/
def far : ℝ := 11920929 * 8388608

/-- The pattern nearest to `1e14` denotes `far`. -/
theorem ofBits_far : Ideal.ofBits .f32 0x56B5E621#32 = ((far : ℝ) : EReal) := by
  simp [Ideal.ofBits, Ideal.ieee, far, -EReal.coe_mul]; norm_num

/-- The real that the pattern nearest to `1e30` denotes: the kernel's bound above every squared distance. -/
def huge : ℝ := 13234890 * 75557863725914323419136

/-- The pattern nearest to `1e30` denotes `huge`. -/
theorem ofBits_huge : Ideal.ofBits .f32 0x7149F2CA#32 = ((huge : ℝ) : EReal) := by
  simp [Ideal.ofBits, Ideal.ieee, huge, -EReal.coe_mul]; norm_num

/-- The pattern of `14.0` denotes `14`. -/
theorem ofBits_14 : Ideal.ofBits .f32 0x41600000#32 = ((14 : ℝ) : EReal) := by
  simp [Ideal.ofBits, Ideal.ieee, -EReal.coe_mul]; norm_num

/-- The pattern of `3.25` denotes `3.25`. -/
theorem ofBits_first : Ideal.ofBits .f32 0x40500000#32 = ((3.25 : ℝ) : EReal) := by
  simp [Ideal.ofBits, Ideal.ieee, -EReal.coe_mul]; norm_num

/-- The pattern of `20.75` denotes `20.75`. -/
theorem ofBits_last : Ideal.ofBits .f32 0x41A60000#32 = ((20.75 : ℝ) : EReal) := by
  simp [Ideal.ofBits, Ideal.ieee, -EReal.coe_mul]; norm_num

end Cert.Consts

end
-- ==== Proof.Forms.lean ====
/- The functions of extended reals in which the kernel's results and the reference's are both written:
   a row's normalisation, the squared distance of two points, and the indicator of a distance bin. -/
module

public import Idealize.ShloMosaic.PureOps.Ideal
public import proofs.«01_k».proof.Proof.Consts

@[expose] public section

noncomputable section

namespace Cert.Forms

open Idealize.ShloMosaic

/-- The mean of a row, its length given as the divisor. -/
def mean {n : Nat} (d : EReal) (r : Fin n → EReal) : EReal := Ideal.div (∑ k, r k) d

/-- Element `k` of a row, less the mean, over the square root of the variance plus `e`. -/
def normed {n : Nat} (d e : EReal) (r : Fin n → EReal) (k : Fin n) : EReal :=
  (r k - mean d r) * Ideal.rsqrt (Ideal.div (∑ j, (r j - mean d r) * (r j - mean d r)) d + e)

/-- The squared distance of points `i` and `j`. -/
def dist2 (x : Fin 768 → Fin 3 → EReal) (i j : Fin 768) : EReal :=
  ∑ k, (x i k - x j k) * (x i k - x j k)

/-- `1` when `d` lies strictly between `lo` and `hi`, else `0`. -/
def inBin (d lo hi : EReal) : EReal :=
  (((IntOp.andi (Ideal.cmp .ogt d lo) (Ideal.cmp .olt d hi)).toNat : ℝ) : EReal)

/-- The lower bound of bin `n`: the square of `3.25 + 1.25 n`. -/
def lower (n : Nat) : EReal := (((13 / 4 + 5 / 4 * n) * (13 / 4 + 5 / 4 * n) : ℝ) : EReal)

/-- The upper bound of bin `n`: the next bin's lower bound, or `1e8` for the last. -/
def upper (n : Nat) : EReal := if n < 14 then lower (n + 1) else ((100000000 : ℝ) : EReal)

end Cert.Forms

end
-- ==== Proof.Host.lean ====
/- What the arrays the pipeline reads hold when it starts, at an index: the host lines before the region. -/
module

public import proofs.«01_k».proof.Proof.Gen.KernelIdeal.Frame
public import proofs.«01_k».proof.Proof.Scatter
public import proofs.«01_k».proof.Proof.OneHot
public import proofs.«01_k».proof.Proof.Consts
public import proofs.«01_k».proof.Proof.Forms
public import Idealize.ShloMosaic.Lib.ValueIdx

@[expose] public section

noncomputable section

namespace Cert.KernelIdeal.Host

open Idealize.ShloMosaic Idealize.ShloMosaic.TcCoe Idealize.ShloMosaic.Tactic Idealize.ShloMosaic.ValueIdx
open Idealize.SL.Sem
open Cert.KernelIdeal.Gen Cert.Consts Cert.Forms

/-- An array of extended reals of shape `s`. -/
abbrev Arr (s : Shape) : Type := s.Idx → EReal

/-! ## Reshapes -/

/-- Dropping a leading unit axis of a matrix. -/
theorem drop3 {a b : Nat} {α : Type} (x : (⟨3, ![1, a, b]⟩ : Shape).Idx → α) (h) (p : Fin a) (k : Fin b) :
    shapeCast ⟨2, ![a, b]⟩ x h (ix2 p k) = x (ix3 0 p k) := by
  refine shapeCast_apply _ _ _ _ ?_
  rw [Shape.rowMajor_val_three, Shape.rowMajor_val_two]
  show (0 * a + p.val) * b + k.val = p.val * b + k.val
  rw [Nat.zero_mul, Nat.zero_add]

/-- Dropping a leading unit axis of an array of rank three. -/
theorem drop4 {a b d : Nat} {α : Type} (x : (⟨4, ![1, a, b, d]⟩ : Shape).Idx → α) (h) (p : Fin a) (q : Fin b) (k : Fin d) :
    shapeCast ⟨3, ![a, b, d]⟩ x h (ix3 p q k) = x (ix4 0 p q k) := by
  refine shapeCast_apply _ _ _ _ ?_
  rw [Shape.rowMajor_val_three, Shape.rowMajor_val_four]
  show ((0 * a + p.val) * b + q.val) * d + k.val = (p.val * b + q.val) * d + k.val
  rw [Nat.zero_mul, Nat.zero_add]

/-- A vector as one row. -/
theorem row {a : Nat} {α : Type} (x : (⟨1, ![a]⟩ : Shape).Idx → α) (h) (k : Fin a) :
    shapeCast ⟨2, ![1, a]⟩ x h (ix2 0 k) = x (ix1 k) := by
  refine shapeCast_apply _ _ _ _ ?_
  rw [Shape.rowMajor_val_one, Shape.rowMajor_val_two]
  show k.val = 0 * a + k.val
  rw [Nat.zero_mul, Nat.zero_add]

/-- A vector as one column. -/
theorem col {a : Nat} {α : Type} (x : (⟨1, ![a]⟩ : Shape).Idx → α) (h) (k : Fin a) :
    shapeCast ⟨2, ![a, 1]⟩ x h (ix2 k 0) = x (ix1 k) := by
  refine shapeCast_apply _ _ _ _ ?_
  rw [Shape.rowMajor_val_one, Shape.rowMajor_val_two]
  show k.val = k.val * 1 + 0
  rw [Nat.mul_one, Nat.add_zero]

/-- The columns of a matrix in 32 groups of 24. -/
theorem groups {α : Type} (x : S8x768.Idx → α) (h : S8x768.ShapeCasts S8x32x24) (k : Fin 8) (t : Fin 32) (a : Fin 24) :
    shapeCast S8x32x24 x h (ix3 k t a) = x (ix2 k ⟨24 * t.val + a.val, by omega⟩) := by
  refine shapeCast_apply _ _ _ _ ?_
  rw [Shape.rowMajor_val_three, Shape.rowMajor_val_two]
  show k.val * 768 + (24 * t.val + a.val) = (k.val * 32 + t.val) * 24 + a.val
  omega

/-- A matrix repeated 24 times along its columns. -/
theorem tiled {α : Type} (x : S8x768.Idx → α) (h h1 h2) (k : Fin 8) (j : Fin 18432) :
    shapeCast S8x18432 (broadcastInDim S1x8x24x768 ![0, 1, 2, 3] h1 (shapeCast S1x8x1x768 x h)) h2 (ix2 k j)
      = x (ix2 k ⟨j.val % 768, Nat.mod_lt _ (by decide)⟩) := by
  rw [shapeCast_apply _ _ _ (ix4 (0 : Fin 1) k (⟨j.val / 768, by omega⟩ : Fin 24)
      (⟨j.val % 768, Nat.mod_lt _ (by decide)⟩ : Fin 768)) (by
        rw [Shape.rowMajor_val_four, Shape.rowMajor_val_two]
        show ((0 * 8 + k.val) * 24 + j.val / 768) * 768 + j.val % 768 = k.val * 18432 + j.val
        omega),
    broadcastInDim_apply _ _ _ _ (ix4 (0 : Fin 1) k (0 : Fin 1) (⟨j.val % 768, Nat.mod_lt _ (by decide)⟩ : Fin 768))
      (fun b => match b with | ⟨0, _⟩ => rfl | ⟨1, _⟩ => rfl | ⟨2, _⟩ => rfl | ⟨3, _⟩ => rfl)]
  refine shapeCast_apply _ _ _ _ ?_
  rw [Shape.rowMajor_val_four, Shape.rowMajor_val_two]
  show k.val * 768 + j.val % 768 = ((0 * 8 + k.val) * 1 + 0) * 768 + j.val % 768
  omega

/-! ## The host tensors as functions of the arguments -/

/-- The coordinates with a row for each axis, padded to eight rows with zeros. -/
def padded (x : Arr S1x768x3) : Arr S8x768 :=
  Host.scatter scatter_S8x768_S1_S3x768_01_n_0_0 (fun _ b => b)
    (broadcastInDim S8x768 ![] Facts₀.bcast_S_S8x768 (constant (F := Ideal) S_ .f32 0#32))
    (broadcastInDim S1 ![] Facts₀.bcast_S_S1 (constantI S_ 32 0#32))
    (transpose S3x768 [1, 0] (shapeCast S768x3 x Facts₀.shapeCasts_S1x768x3_S768x3) Facts₀.transposes_S768x3_S3x768_1_0)

/-- The padded coordinates: three rows of coordinates, then zeros. -/
theorem padded_at (x : Arr S1x768x3) (k : Fin 8) (p : Fin 768) :
    padded x (ix2 k p) = if h : k.val < 3 then x (ix3 0 p ⟨k.val, h⟩) else 0 := by
  unfold padded
  rw [Cert.Scatter.set_rows (U := 3) scatter_S8x768_S1_S3x768_01_n_0_0 rfl rfl rfl _ _ rfl]
  refine dite_congr rfl (fun h => ?_) fun h => ofBits_zero
  rw [transpose_apply _ _ _ _ (ix2 p ⟨k.val, h⟩) (fun b => match b with | ⟨0, _⟩ => rfl | ⟨1, _⟩ => rfl)]
  exact drop3 x _ p ⟨k.val, h⟩

/-- The projection of the bins, a row for each bin, and a last row that holds the two biases. -/
def weights (w : Arr S128x15) (b l : Arr S128) : Arr S16x128 :=
  Host.scatter scatter_S16x128_S1_S128_0_0_0_0 (fun _ b => b)
    (Host.scatter scatter_S16x128_S1_S15x128_01_n_0_0 (fun _ b => b)
      (broadcastInDim S16x128 ![] Facts₀.bcast_S_S16x128 (constant (F := Ideal) S_ .f32 0#32))
      (broadcastInDim S1 ![] Facts₀.bcast_S_S1 (constantI S_ 32 0#32))
      (transpose S15x128 [1, 0] w Facts₀.transposes_S128x15_S15x128_1_0))
    (broadcastInDim S1 ![] Facts₀.bcast_S_S1 (constantI S_ 32 15#32))
    (addf (F := Ideal) (φ := .f32) b l)

/-- The weights at an entry. -/
theorem weights_at (w : Arr S128x15) (b l : Arr S128) (n : Fin 16) (k : Fin 128) :
    weights w b l (ix2 n k) = if h : n.val < 15 then w (ix2 k ⟨n.val, h⟩) else b (ix1 k) + l (ix1 k) := by
  unfold weights
  rw [Cert.Scatter.set_row scatter_S16x128_S1_S128_0_0_0_0 rfl rfl rfl _ _ (15 : Fin 16) rfl,
    Cert.Scatter.set_rows (U := 15) scatter_S16x128_S1_S15x128_01_n_0_0 rfl rfl rfl _ _ rfl]
  by_cases h : n.val < 15
  · rw [if_neg (by intro e; rw [← e] at h; exact absurd h (by decide)), dif_pos h, dif_pos h]
    exact transpose_apply _ _ _ _ (ix2 k ⟨n.val, h⟩) (fun b => match b with | ⟨0, _⟩ => rfl | ⟨1, _⟩ => rfl)
  · rw [if_pos (Fin.ext (by have := n.isLt; show 15 = n.val; omega)), dif_neg h]
    rfl

/-- The lower bounds: of the fifteen bins, then `-1`. -/
theorem lit0_at (n : Fin 16) :
    Ideal.ofBits .f32 (lit0 n) = if n.val < 15 then lower n.val else ((-1 : ℝ) : EReal) := by
  unfold lower
  fin_cases n
  all_goals simp [lit0, Ideal.ofBits, Ideal.ieee, -EReal.coe_mul, -EReal.coe_neg, -EReal.coe_add]
  all_goals norm_num

/-- The upper bounds: of the fifteen bins, then `1e30`. -/
theorem lit1_at (n : Fin 16) :
    Ideal.ofBits .f32 (lit1 n) = if n.val < 15 then upper n.val else ((huge : ℝ) : EReal) := by
  unfold upper lower huge
  fin_cases n
  all_goals simp [lit1, Ideal.ofBits, Ideal.ieee, -EReal.coe_mul, -EReal.coe_neg, -EReal.coe_add]
  all_goals norm_num

variable (m : (ℓ : Loc nD τ sig) → Buf (Elt Ideal) ℓ) (c : Dev nD)

/-! ## The arrays the windows read -/

/-- The launch contents of an argument, at core `c`. -/
abbrev arg (b : Ref sig .tc) : Buf (Elt Ideal) ((c : Thread nD τ).loc b) := m ((c : Thread nD τ).loc b)

/-- The rows of the first argument. -/
theorem v0_at (p : Fin 768) (k : Fin 256) : V m c main_v0 (ix2 p k) = arg m c main_arg0 (ix3 0 p k) := by
  dsimp only [V, V0, hostOps0, List.flatten_cons, List.flatten_nil, List.append_nil, List.cons_append, List.nil_append]
  after_results
  exact drop3 (arg m c main_arg0) _ p k

/-- The pairs of the second argument. -/
theorem v1_at (p q : Fin 768) (k : Fin 128) : V m c main_v1 (ix3 p q k) = arg m c main_arg1 (ix4 0 p q k) := by
  dsimp only [V, V0, hostOps0, List.flatten_cons, List.flatten_nil, List.append_nil, List.cons_append, List.nil_append]
  after_results
  exact drop4 (arg m c main_arg1) _ p q k

/-- The padded coordinates of the 24 points of each grid point. -/
theorem v8_at (t : Fin 32) (k : Fin 8) (a : Fin 24) :
    V m c main_v8 (ix3 t k a) = padded (arg m c main_arg2) (ix2 k ⟨24 * t.val + a.val, by omega⟩) := by
  dsimp only [V, V0, hostOps0, List.flatten_cons, List.flatten_nil, List.append_nil, List.cons_append, List.nil_append]
  after_results
  exact (transpose_apply _ _ _ _ (ix3 k t a)
    (fun b => match b with | ⟨0, _⟩ => rfl | ⟨1, _⟩ => rfl | ⟨2, _⟩ => rfl)).trans
    (groups (padded (arg m c main_arg2)) _ k t a)

/-- The table of one-hot rows. -/
theorem v20_at (a : Fin 24) (j : Fin 18432) :
    V m c main_v20 (ix2 a j) = if j.val / 768 = a.val then (1 : EReal) else 0 := by
  refine Eq.trans ?_ (oneHot_at a j)
  dsimp only [V, V0, hostOps0, List.flatten_cons, List.flatten_nil, List.append_nil, List.cons_append, List.nil_append]
  after_results
  rfl

/-- The padded coordinates of all points, repeated 24 times along the columns. -/
theorem v11_at (k : Fin 8) (j : Fin 18432) :
    V m c main_v11 (ix2 k j) = padded (arg m c main_arg2) (ix2 k ⟨j.val % 768, Nat.mod_lt _ (by decide)⟩) := by
  dsimp only [V, V0, hostOps0, List.flatten_cons, List.flatten_nil, List.append_nil, List.cons_append, List.nil_append]
  after_results
  exact tiled (padded (arg m c main_arg2)) _ _ _ k j

/-- The weights. -/
theorem v28_eq : V m c main_v28 = weights (arg m c main_arg3) (arg m c main_arg4) (arg m c main_arg8) := by
  dsimp only [V, V0, hostOps0, List.flatten_cons, List.flatten_nil, List.append_nil, List.cons_append, List.nil_append]
  after_results
  exact funext fun _ => rfl

/-- The matrix of ones. -/
theorem v29_at (i : S128x128.Idx) : V m c main_v29 i = (1 : EReal) := by
  dsimp only [V, V0, hostOps0, List.flatten_cons, List.flatten_nil, List.append_nil, List.cons_append, List.nil_append]
  after_results
  exact ofBits_one_bf16

/-- The scale of the first normalisation. -/
theorem v30_at (k : Fin 256) : V m c main_v30 (ix2 0 k) = arg m c main_arg5 (ix1 k) := by
  dsimp only [V, V0, hostOps0, List.flatten_cons, List.flatten_nil, List.append_nil, List.cons_append, List.nil_append]
  after_results
  exact row (arg m c main_arg5) _ k

/-- The shift of the first normalisation. -/
theorem v31_at (k : Fin 256) : V m c main_v31 (ix2 0 k) = arg m c main_arg6 (ix1 k) := by
  dsimp only [V, V0, hostOps0, List.flatten_cons, List.flatten_nil, List.append_nil, List.cons_append, List.nil_append]
  after_results
  exact row (arg m c main_arg6) _ k

/-- The scale of the second normalisation. -/
theorem v32_at (k : Fin 128) : V m c main_v32 (ix2 0 k) = arg m c main_arg7 (ix1 k) := by
  dsimp only [V, V0, hostOps0, List.flatten_cons, List.flatten_nil, List.append_nil, List.cons_append, List.nil_append]
  after_results
  exact row (arg m c main_arg7) _ k

/-- The lower bounds of the sixteen rows. -/
theorem v33_at (n : Fin 16) :
    V m c main_v33 (ix2 n 0) = if n.val < 15 then lower n.val else ((-1 : ℝ) : EReal) := by
  rw [← lit0_at]
  dsimp only [V, V0, hostOps0, List.flatten_cons, List.flatten_nil, List.append_nil, List.cons_append, List.nil_append]
  after_results
  exact (col (fun i => Ideal.ofBits .f32 (lit0 (S16.rowMajor i))) _ n).trans
    (congrArg (fun i => Ideal.ofBits .f32 (lit0 i)) (Fin.ext (Shape.rowMajor_val_one (d := ![16]) _)))

/-- The upper bounds of the sixteen rows. -/
theorem v34_at (n : Fin 16) :
    V m c main_v34 (ix2 n 0) = if n.val < 15 then upper n.val else ((huge : ℝ) : EReal) := by
  rw [← lit1_at]
  dsimp only [V, V0, hostOps0, List.flatten_cons, List.flatten_nil, List.append_nil, List.cons_append, List.nil_append]
  after_results
  exact (col (fun i => Ideal.ofBits .f32 (lit1 (S16.rowMajor i))) _ n).trans
    (congrArg (fun i => Ideal.ofBits .f32 (lit1 i)) (Fin.ext (Shape.rowMajor_val_one (d := ![16]) _)))

end Cert.KernelIdeal.Host

end
-- ==== Proof.Block.lean ====
/- What the body computes at one grid point, read at an index, as functions of the blocks it loads. -/
module

public import proofs.«01_k».proof.Proof.Gen.KernelIdeal.Frame
public import proofs.«01_k».proof.Proof.Consts
public import proofs.«01_k».proof.Proof.Forms
public import Idealize.ShloMosaic.Lib.Pointwise
public import Idealize.ShloMosaic.Lib.Pipeline.ValueKit.Tiles

@[expose] public section

noncomputable section

namespace Cert.KernelIdeal.Block

open Idealize.ShloMosaic Idealize.ShloMosaic.TcCoe Idealize.ShloMosaic.Tactic
open Cert.KernelIdeal.Gen Cert.Consts Cert.Forms

/-- The first result's block: each row normalised, scaled and shifted. -/
theorem pay1_at (x : FVec Ideal S24x256 .f32) (g b : FVec Ideal S1x256 .f32) (a : Fin 24) (k : Fin 256) :
    k0_pay1 (F := Ideal) x g b (ix2 a k)
      = normed (Ideal.ofBits .f32 0x43800000#32) (Ideal.ofBits .f32 0x3727C5AC#32) (fun l => x (ix2 a l)) k
          * g (ix2 0 k) + b (ix2 0 k) := by
  unfold k0_pay1
  simp only [pointwise]
  rfl

/-- The squared differences of a block's points and all points, a row for each axis: the points are spread over the columns
    by the product with `s`. -/
theorem pay2_at (x : FVec Ideal S1x8x24 .f32) (s : FVec Ideal S24x18432 .f32) (y : FVec Ideal S8x18432 .f32) (k : Fin 8)
    (j : Fin 18432) :
    k0_pay2 x s y (ix2 k j)
      = ((∑ a : Fin 24, x (ix3 0 k a) * s (ix2 a j)) - y (ix2 k j)) * ((∑ a : Fin 24, x (ix3 0 k a) * s (ix2 a j)) - y (ix2 k j)) := by
  unfold k0_pay2
  simp only [pointwise, zero_add]

/-- A bit, widened and cast to a float, is the number it stands for. -/
theorem sitofp_bit (b : BitVec 1) :
    FloatOps.sitofp (F := Ideal) .f32 (BitVec.setWidth 32 b) = (((b.toNat : ℝ)) : EReal) := by
  show (((BitVec.setWidth 32 b).toInt : ℝ) : EReal) = _
  rw [show (BitVec.setWidth 32 b).toInt = (b.toNat : ℤ) by revert b; decide]
  norm_cast

/-- The bin indicators of a block: one where the column's sum lies strictly between the row's bounds. -/
theorem pay3_at (d : FVec Ideal S8x18432 .f32) (lo hi : FVec Ideal S16x1 .f32) (n : Fin 16) (j : Fin 18432) :
    k0_pay3 (F := Ideal) d lo hi (ix2 n j) = inBin (∑ k, d (ix2 k j)) (lo (ix2 n 0)) (hi (ix2 n 0)) := by
  unfold k0_pay3
  simp only [pointwise, zero_add]
  exact sitofp_bit _

/-- Three rows of the second result, from the bin indicators of their columns on. -/
def chunk (o : Nat) (h : S16x18432.Slices ![0, o] S16x2304) (p : FVec Ideal S16x18432 .bf16) (g : FVec Ideal S1x128 .f32)
    (ones : FVec Ideal S128x128 .bf16) (w : FVec Ideal S16x128 .bf16) (z : FVec Ideal S3x768x128 .f32) :
    FVec Ideal S3x768x128 .f32 :=
  let r : FVec Ideal S2304x128 .f32 := shapeCast S2304x128 (shapeCast S3x768x128 z shapeCasts_S3x768x128_S3x768x128) shapeCasts_S3x768x128_S2304x128
  let q : FVec Ideal S2304x128 .bf16 := truncf .bf16 r bitsLt_bf16_f32
  let s1 : FVec Ideal S2304x128 .f32 := matmul dot_S2304x128_S128x128_S2304x128_1_0_0_1_n_n none q ones (constant S2304x128 .f32 0x00000000#32)
  let s2 : FVec Ideal S2304x128 .f32 := matmul dot_S2304x128_S128x128_S2304x128_1_0_0_1_n_n none (mulf q q) ones (constant S2304x128 .f32 0x00000000#32)
  let c128 : FVec Ideal S2304x128 .f32 := broadcast S2304x128 (Scalar.ofBits (F := Ideal) .f32 0x43000000#32)
  let v : FVec Ideal S2304x128 .f32 := addf (subf (mulf s2 c128) (mulf s1 s1)) (broadcast S2304x128 (Scalar.ofBits (F := Ideal) .f32 0x3E27C5AC#32))
  let t : FVec Ideal S2304x128 .f32 := mulf (mulf (subf (mulf r c128) s1) (rsqrt v)) (broadcastTo S2304x128 g broadcasts_S1x128_S2304x128)
  let u : FVec Ideal S2304x128 .f32 := matmul dot_S16x2304_S16x128_S2304x128_0_0_1_1_n_n none (extractStridedSlice S16x2304 ![0, o] p h)
    (shapeCast S16x128 w shapeCasts_S16x128_S16x128) (constant S2304x128 .f32 0x00000000#32)
  shapeCast S3x768x128 (addf t u) shapeCasts_S2304x128_S3x768x128

/-- The first three rows are computed from the squared differences, the indicators written out once more. -/
theorem first_rows (d : FVec Ideal S8x18432 .f32) (lo hi : FVec Ideal S16x1 .f32) (g : FVec Ideal S1x128 .f32)
    (ones : FVec Ideal S128x128 .bf16) (w : FVec Ideal S16x128 .bf16) (z : FVec Ideal S3x768x128 .f32) :
    k0_pay12 (F := Ideal) g (k0_pay6 d lo hi w) (k0_pay10 ones z) (k0_pay11 ones z)
      = chunk 0 slices_S16x18432_o0_0_S16x2304 (k0_pay3 d lo hi) g ones w z := by
  have e : k0_pay5 (F := Ideal) ones = ones := shapeCast_self _ _
  unfold k0_pay11 k0_pay10 k0_pay9
  rw [e]
  rfl

/-- An element of a row of 128, `128` times it less the row's sum over the scaled deviation, the sums taken by products
    with a matrix of ones. -/
def scaled (ones : FVec Ideal S128x128 .bf16) (r : Fin 128 → EReal) (k : Fin 128) : EReal :=
  (r k * Ideal.ofBits .f32 0x43000000#32 - ∑ l, r l * ones (ix2 l k))
    * Ideal.rsqrt ((∑ l, r l * r l * ones (ix2 l k)) * Ideal.ofBits .f32 0x43000000#32
        - (∑ l, r l * ones (ix2 l k)) * (∑ l, r l * ones (ix2 l k)) + Ideal.ofBits .f32 0x3E27C5AC#32)

/-- Three rows of the second result, at an index. -/
theorem chunk_at (o : Nat) (h : S16x18432.Slices ![0, o] S16x2304) (p : FVec Ideal S16x18432 .bf16) (g : FVec Ideal S1x128 .f32)
    (ones : FVec Ideal S128x128 .bf16) (w : FVec Ideal S16x128 .bf16) (z : FVec Ideal S3x768x128 .f32)
    (a : Fin 3) (j : Fin 768) (k : Fin 128) (ho : o + (a.val * 768 + j.val) < 18432) :
    chunk o h p g ones w z (ix3 a j k)
      = scaled ones (fun l => z (ix3 a j l)) k * g (ix2 0 k)
        + ∑ n, p (ix2 n ⟨o + (a.val * 768 + j.val), ho⟩) * w (ix2 n k) := by
  unfold chunk
  simp only [pointwise, zero_add]
  refine congrArg₂ (· + ·) rfl (Finset.sum_congr rfl fun n _ => ?_)
  refine congrArg (fun i => p (ix2 i _) * w (ix2 n k)) (Fin.ext ?_)
  exact Nat.zero_add _

/-- The second result's block at an index, from the indicators of all its columns. -/
def second (p : FVec Ideal S16x18432 .bf16) (g : FVec Ideal S1x128 .f32) (ones : FVec Ideal S128x128 .bf16)
    (w : FVec Ideal S16x128 .bf16) (z : FVec Ideal S24x768x128 .f32) (a : Fin 24) (j : Fin 768) (k : Fin 128) : EReal :=
  scaled ones (fun l => z (ix3 a j l)) k * g (ix2 0 k)
    + ∑ n, p (ix2 n ⟨a.val * 768 + j.val, by have := a.isLt; have := j.isLt; omega⟩) * w (ix2 n k)

/-- The rows from `3 c` on: what is computed from those rows of the block is `second` there. -/
theorem piece (c : Nat) (h : S16x18432.Slices ![0, 2304 * c] S16x2304)
    (inb : ∀ a, (![3 * c, 0, 0] : Fin 3 → Nat) a + S3x768x128.size a ≤ S24x768x128.size a)
    (p : FVec Ideal S16x18432 .bf16) (g : FVec Ideal S1x128 .f32) (ones : FVec Ideal S128x128 .bf16)
    (w : FVec Ideal S16x128 .bf16) (z : FVec Ideal S24x768x128 .f32) (x : S3x768x128.Idx) :
    chunk (2304 * c) h p g ones w (View.ld (Val := Elt Ideal) (e' := .f32) z (Rect.unit (s := S24x768x128) ![3 * c, 0, 0] S3x768x128.size inb)) x
      = (fun y : S24x768x128.Idx => second p g ones w z (y 0) (y 1) (y 2))
          ((Rect.unit (s := S24x768x128) ![3 * c, 0, 0] S3x768x128.size inb).emb x) := by
  obtain ⟨a, j, k, rfl⟩ : ∃ (a : Fin 3) (j : Fin 768) (k : Fin 128), x = ix3 a j k := ⟨x 0, x 1, x 2, eq_ix3 x⟩
  have hc : 3 * c + 3 ≤ 24 := inb 0
  have ha := a.isLt
  have hj := j.isLt
  have hemb : ∀ l : Fin 128, (Rect.unit (s := S24x768x128) ![3 * c, 0, 0] S3x768x128.size inb).emb (ix3 a j l)
      = ix3 ⟨3 * c + a.val, by omega⟩ j l := fun l => by
    funext b; apply Fin.ext; rw [Rect.emb_apply]
    match b with
    | ⟨0, _⟩ => exact congrArg (3 * c + ·) (Nat.one_mul a.val)
    | ⟨1, _⟩ => exact (Nat.zero_add _).trans (Nat.one_mul j.val)
    | ⟨2, _⟩ => exact (Nat.zero_add _).trans (Nat.one_mul l.val)
  have hld : ∀ l : Fin 128, View.ld (Val := Elt Ideal) (e' := .f32) z (Rect.unit (s := S24x768x128) ![3 * c, 0, 0] S3x768x128.size inb) (ix3 a j l)
      = z (ix3 ⟨3 * c + a.val, by omega⟩ j l) := fun l => congrArg z (hemb l)
  rw [hemb, chunk_at _ _ _ _ _ _ _ _ _ _ (by omega)]
  simp only [hld]
  show _ = second p g ones w z ⟨3 * c + a.val, by omega⟩ j k
  unfold second
  refine congrArg₂ (· + ·) rfl (Finset.sum_congr rfl fun n _ => ?_)
  refine congrArg (fun i => p (ix2 n i) * w (ix2 n k)) (Fin.ext ?_)
  show 2304 * c + (a.val * 768 + j.val) = (3 * c + a.val) * 768 + j.val
  omega

section Blocks

variable (x0 : FVec Ideal S24x256 .f32) (x1 : FVec Ideal S24x768x128 .f32) (x2 : FVec Ideal S1x8x24 .f32)
  (x3 : FVec Ideal S24x18432 .f32) (x4 : FVec Ideal S8x18432 .f32) (x5 : FVec Ideal S16x128 .bf16)
  (x6 : FVec Ideal S128x128 .bf16) (x7 x8 : FVec Ideal S1x256 .f32) (x9 : FVec Ideal S1x128 .f32)
  (x10 x11 : FVec Ideal S16x1 .f32)

/-- The first result's block at an index. -/
theorem out12_at (a : Fin 24) (k : Fin 256) :
    out0_12 (F := Ideal) x0 x1 x2 x3 x4 x5 x6 x7 x8 x9 x10 x11 (ix2 a k)
      = normed (Ideal.ofBits .f32 0x43800000#32) (Ideal.ofBits .f32 0x3727C5AC#32) (fun l => x0 (ix2 a l)) k
          * x7 (ix2 0 k) + x8 (ix2 0 k) := by
  have h : out0_12 (F := Ideal) x0 x1 x2 x3 x4 x5 x6 x7 x8 x9 x10 x11 = k0_pay1 (F := Ideal) x0 x7 x8 := by
    unfold out0_12 r0_0 r0_1
    rw [View.canon_unit_zero (by decide), View.ld_unit_zero (by decide), View.ld_unit_zero (by decide), View.ld_unit_zero (by decide)]
  rw [h, pay1_at]

/-- The second result's block at an index, from the indicators the body computes. -/
theorem out13_second (a : Fin 24) (j : Fin 768) (k : Fin 128) :
    out0_13 (F := Ideal) x0 x1 x2 x3 x4 x5 x6 x7 x8 x9 x10 x11 (ix3 a j k)
      = second (k0_pay3 (k0_pay2 x2 x3 x4) x10 x11) x9 x6 x5 x1 a j k := by
  have e2 : k0_pay33 (F := Ideal) x0 x1 x2 x3 x4 x5 x6 x7 x8 x9 x10 x11 = k0_pay2 (F := Ideal) x2 x3 x4 := by
    unfold k0_pay33 r0_2 r0_3 r0_4
    rw [View.ld_unit_zero (by decide), View.ld_unit_zero (by decide), View.ld_unit_zero (by decide)]
  have e3 : k0_pay34 (F := Ideal) x0 x1 x2 x3 x4 x5 x6 x7 x8 x9 x10 x11 = k0_pay3 (F := Ideal) (k0_pay2 x2 x3 x4) x10 x11 := by
    unfold k0_pay34 r0_5
    rw [e2, View.ld_unit_zero (by decide), View.ld_unit_zero (by decide)]
  have e4 : k0_pay35 (F := Ideal) x0 x1 x2 x3 x4 x5 x6 x7 x8 x9 x10 x11 = x9 := by
    unfold k0_pay35 r0_6 k0_pay4
    rw [View.ld_unit_zero (by decide), shapeCast_self]
  have e5 : k0_pay36 (F := Ideal) x0 x1 x2 x3 x4 x5 x6 x7 x8 x9 x10 x11 = x6 := by
    unfold k0_pay36 r0_7 k0_pay5
    rw [View.ld_unit_zero (by decide), shapeCast_self]
  have w5 : View.ld (Val := Elt Ideal) (e' := .bf16) x5 r0_8 = x5 := View.ld_unit_zero (by decide) _ _
  have w6 : View.ld (Val := Elt Ideal) (e' := .bf16) x6 r0_7 = x6 := View.ld_unit_zero (by decide) _ _
  have w10 : View.ld (Val := Elt Ideal) (e' := .f32) x10 r0_5 = x10 := View.ld_unit_zero (by decide) _ _
  have w11 : View.ld (Val := Elt Ideal) (e' := .f32) x11 r0_5 = x11 := View.ld_unit_zero (by decide) _ _
  unfold out0_13
  rw [e2, e3, e4, e5, w5, w6, w10, w11]
  generalize hp : k0_pay3 (F := Ideal) (k0_pay2 x2 x3 x4) x10 x11 = p
  refine (View.canon_apply_of_pieces (fun y : S24x768x128.Idx => second p x9 x6 x5 x1 (y 0) (y 1) (y 2)) _ ?_ (ix3 a j k)
    (cover0_13 _ _ _ _ _ _ _ _ _)).trans rfl
  simp only [List.forall_mem_cons]
  refine ⟨?_, ?_, ?_, ?_, ?_, ?_, ?_, ?_, fun _ h => absurd h List.not_mem_nil⟩
  · exact piece 7 slices_S16x18432_o0_16128_S16x2304 _ p x9 x6 x5 x1
  · exact piece 6 slices_S16x18432_o0_13824_S16x2304 _ p x9 x6 x5 x1
  · exact piece 5 slices_S16x18432_o0_11520_S16x2304 _ p x9 x6 x5 x1
  · exact piece 4 slices_S16x18432_o0_9216_S16x2304 _ p x9 x6 x5 x1
  · exact piece 3 slices_S16x18432_o0_6912_S16x2304 _ p x9 x6 x5 x1
  · exact piece 2 slices_S16x18432_o0_4608_S16x2304 _ p x9 x6 x5 x1
  · exact piece 1 slices_S16x18432_o0_2304_S16x2304 _ p x9 x6 x5 x1
  · subst hp
    rw [first_rows]
    exact piece 0 slices_S16x18432_o0_0_S16x2304 _ _ x9 x6 x5 x1

end Blocks

end Cert.KernelIdeal.Block

end
-- ==== Proof.Arrays.lean ====
/- What the two result arrays of the pipeline hold after the last grid point, as functions of the launch arguments. -/
module

public import proofs.«01_k».proof.Proof.Host
public import proofs.«01_k».proof.Proof.Block
public import Idealize.ShloMosaic.Lib.Pointwise.IndexBridge
public import Idealize.ShloMosaic.Lib.Pipeline.ValueKit.Geometry
public import Idealize.ShloMosaic.Lib.Pipeline.ValueKit.Acc

@[expose] public section

noncomputable section

namespace Cert.KernelIdeal.Arrays

open Idealize.ShloMosaic hiding ix1 ix2 ix3 ix4 eq_ix2 eq_ix3
open Idealize.ShloMosaic.TcCoe Idealize.ShloMosaic.Tactic Idealize.ShloMosaic.ValueIdx
open Cert.KernelIdeal.Gen Cert.KernelIdeal.Host Cert.KernelIdeal.Block Cert.Consts Cert.Forms

variable (m : (ℓ : Loc nD τ sig) → Buf (Elt Ideal) ℓ) (c : Dev nD)

/-! ## The blocks of the input windows -/

/-- Window 0's block at grid point `t`. -/
theorem index0 : ∀ t : Fin cfg0.N, win0_0.index t = ![t.val, 0] := (by decide +kernel : ∀ t : Fin grid0.N, _)

/-- Window 1's block at grid point `t`. -/
theorem index1 : ∀ t : Fin cfg0.N, win0_1.index t = ![t.val, 0, 0] := (by decide +kernel : ∀ t : Fin grid0.N, _)

/-- Window 2's block at grid point `t`. -/
theorem index2 : ∀ t : Fin cfg0.N, win0_2.index t = ![t.val, 0, 0] := (by decide +kernel : ∀ t : Fin grid0.N, _)

/-- Window 3's block at grid point `t`. -/
theorem index3 : ∀ t : Fin cfg0.N, win0_3.index t = ![0, 0] := (by decide +kernel : ∀ t : Fin grid0.N, _)

/-- Window 4's block at grid point `t`. -/
theorem index4 : ∀ t : Fin cfg0.N, win0_4.index t = ![0, 0] := (by decide +kernel : ∀ t : Fin grid0.N, _)

/-- Window 5's block at grid point `t`. -/
theorem index5 : ∀ t : Fin cfg0.N, win0_5.index t = ![0, 0] := (by decide +kernel : ∀ t : Fin grid0.N, _)

/-- Window 6's block at grid point `t`. -/
theorem index6 : ∀ t : Fin cfg0.N, win0_6.index t = ![0, 0] := (by decide +kernel : ∀ t : Fin grid0.N, _)

/-- Window 7's block at grid point `t`. -/
theorem index7 : ∀ t : Fin cfg0.N, win0_7.index t = ![0, 0] := (by decide +kernel : ∀ t : Fin grid0.N, _)

/-- Window 8's block at grid point `t`. -/
theorem index8 : ∀ t : Fin cfg0.N, win0_8.index t = ![0, 0] := (by decide +kernel : ∀ t : Fin grid0.N, _)

/-- Window 9's block at grid point `t`. -/
theorem index9 : ∀ t : Fin cfg0.N, win0_9.index t = ![0, 0] := (by decide +kernel : ∀ t : Fin grid0.N, _)

/-- Window 10's block at grid point `t`. -/
theorem index10 : ∀ t : Fin cfg0.N, win0_10.index t = ![0, 0] := (by decide +kernel : ∀ t : Fin grid0.N, _)

/-- Window 11's block at grid point `t`. -/
theorem index11 : ∀ t : Fin cfg0.N, win0_11.index t = ![0, 0] := (by decide +kernel : ∀ t : Fin grid0.N, _)

/-- Window 12's block at grid point `t`. -/
theorem index12 : ∀ t : Fin cfg0.N, win0_12.index t = ![t.val, 0] := (by decide +kernel : ∀ t : Fin grid0.N, _)

/-- Window 13's block at grid point `t`. -/
theorem index13 : ∀ t : Fin cfg0.N, win0_13.index t = ![t.val, 0, 0] := (by decide +kernel : ∀ t : Fin grid0.N, _)

/-- Row `a` of grid point `t` among all the rows. -/
def rowOf (t : Fin cfg0.N) (a : Fin 24) : Fin 768 :=
  ⟨24 * t.val + a.val, by have : t.val < 32 := t.isLt; omega⟩

/-- Column `j` of row `a` among the columns of a grid point. -/
def colOf (a : Fin 24) (j : Fin 768) : Fin 18432 := ⟨a.val * 768 + j.val, by omega⟩

/-- The rows of the first argument. -/
theorem block0 (t : Fin cfg0.N) (a : Fin 24) (k : Fin 256) : iblk m c 0 t (ix2 a k) = arg m c main_arg0 (ix3 0 (rowOf t a) k) := by
  rw [← v0_at m c]
  blk_simp [iblk]
  refine congrArg _ ?_
  blk_ext [index0, rowOf, ix1, ix2, ix3]

/-- The rows of the second argument. -/
theorem block1 (t : Fin cfg0.N) (a : Fin 24) (j : Fin 768) (k : Fin 128) : iblk m c 1 t (ix3 a j k) = arg m c main_arg1 (ix4 0 (rowOf t a) j k) := by
  rw [← v1_at m c]
  blk_simp [iblk]
  refine congrArg _ ?_
  blk_ext [index1, rowOf, ix1, ix2, ix3]

/-- The coordinates of the grid point's own points. -/
theorem block2 (t : Fin cfg0.N) (k : Fin 8) (a : Fin 24) :
    iblk m c 2 t (ix3 0 k a) = padded (arg m c main_arg2) (ix2 k (rowOf t a)) := by
  refine Eq.trans ?_ (v8_at m c ⟨t.val, t.isLt⟩ k a)
  blk_simp [iblk]
  refine congrArg _ ?_
  blk_ext [index2, ix2, ix3]

/-- The matrix that repeats each point along its columns. -/
theorem block3 (t : Fin cfg0.N) (a : Fin 24) (j : Fin 18432) : iblk m c 3 t (ix2 a j) = if j.val / 768 = a.val then (1 : EReal) else 0 := by
  rw [← v20_at m c]
  blk_simp [iblk]
  refine congrArg _ ?_
  blk_ext [index3, rowOf, ix1, ix2, ix3]

/-- The coordinates of all the points, repeated. -/
theorem block4 (t : Fin cfg0.N) (k : Fin 8) (j : Fin 18432) : iblk m c 4 t (ix2 k j) = padded (arg m c main_arg2) (ix2 k ⟨j.val % 768, Nat.mod_lt _ (by decide)⟩) := by
  rw [← v11_at m c]
  blk_simp [iblk]
  refine congrArg _ ?_
  blk_ext [index4, rowOf, ix1, ix2, ix3]

/-- The table of weights. -/
theorem block5 (t : Fin cfg0.N) (n : Fin 16) (k : Fin 128) : iblk m c 5 t (ix2 n k) = weights (arg m c main_arg3) (arg m c main_arg4) (arg m c main_arg8) (ix2 n k) := by
  rw [← v28_eq m c]
  blk_simp [iblk]
  refine congrArg _ ?_
  blk_ext [index5, rowOf, ix1, ix2, ix3]

/-- The matrix of ones. -/
theorem block6 (t : Fin cfg0.N) (l k : Fin 128) : iblk m c 6 t (ix2 l k) = (1 : EReal) := by
  rw [← v29_at m c (ix2 l k)]
  blk_simp [iblk]
  refine congrArg _ ?_
  blk_ext [index6, rowOf, ix1, ix2, ix3]

/-- The first scale. -/
theorem block7 (t : Fin cfg0.N) (k : Fin 256) : iblk m c 7 t (ix2 0 k) = arg m c main_arg5 (ix1 k) := by
  rw [← v30_at m c]
  blk_simp [iblk]
  refine congrArg _ ?_
  blk_ext [index7, rowOf, ix1, ix2, ix3]

/-- The first shift. -/
theorem block8 (t : Fin cfg0.N) (k : Fin 256) : iblk m c 8 t (ix2 0 k) = arg m c main_arg6 (ix1 k) := by
  rw [← v31_at m c]
  blk_simp [iblk]
  refine congrArg _ ?_
  blk_ext [index8, rowOf, ix1, ix2, ix3]

/-- The second scale. -/
theorem block9 (t : Fin cfg0.N) (k : Fin 128) : iblk m c 9 t (ix2 0 k) = arg m c main_arg7 (ix1 k) := by
  rw [← v32_at m c]
  blk_simp [iblk]
  refine congrArg _ ?_
  blk_ext [index9, rowOf, ix1, ix2, ix3]

/-- The lower bounds. -/
theorem block10 (t : Fin cfg0.N) (n : Fin 16) : iblk m c 10 t (ix2 n 0) = if n.val < 15 then lower n.val else ((-1 : ℝ) : EReal) := by
  rw [← v33_at m c]
  blk_simp [iblk]
  refine congrArg _ ?_
  blk_ext [index10, rowOf, ix1, ix2, ix3]

/-- The upper bounds. -/
theorem block11 (t : Fin cfg0.N) (n : Fin 16) : iblk m c 11 t (ix2 n 0) = if n.val < 15 then upper n.val else ((huge : ℝ) : EReal) := by
  rw [← v34_at m c]
  blk_simp [iblk]
  refine congrArg _ ?_
  blk_ext [index11, rowOf, ix1, ix2, ix3]

/-! ## The distances and the indicators -/

/-- A sum against the repeating matrix picks the column's own point, whatever the other terms are. -/
theorem pick (f : Fin 24 → EReal) (a : Fin 24) (j : Fin 768) :
    ∑ b : Fin 24, f b * (if (colOf a j).val / 768 = b.val then (1 : EReal) else 0) = f a := by
  have h : (colOf a j).val / 768 = a.val := by show (a.val * 768 + j.val) / 768 = a.val; omega
  rw [h, Finset.sum_eq_single a]
  · rw [if_pos rfl, mul_one]
  · intro b _ hb
    rw [if_neg (fun e => hb (Fin.ext e.symm)), mul_zero]
  · exact fun h => absurd (Finset.mem_univ _) h

/-- The squared distance of two points, over the padded coordinates. -/
def distance (x : Arr S1x768x3) (p q : Fin 768) : EReal :=
  ∑ k : Fin 8, (padded x (ix2 k p) - padded x (ix2 k q)) * (padded x (ix2 k p) - padded x (ix2 k q))

/-- The distances the body computes. -/
theorem distance_at (t : Fin cfg0.N) (a : Fin 24) (j : Fin 768) :
    ∑ k : Fin 8, k0_pay2 (F := Ideal) (iblk m c 2 t) (iblk m c 3 t) (iblk m c 4 t) (ix2 k (colOf a j))
      = distance (arg m c main_arg2) (rowOf t a) j := by
  have hj : (⟨(colOf a j).val % 768, Nat.mod_lt _ (by decide)⟩ : Fin 768) = j := by
    refine Fin.ext ?_
    show (a.val * 768 + j.val) % 768 = j.val
    omega
  simp only [← ix2_eq_valueIdx, pay2_at]
  simp only [ix2_eq_valueIdx, ix3_eq_valueIdx, block2, block3, block4, pick (fun b => padded _ (ix2 _ (rowOf t b))), hj]
  rfl

/-! ## The arrays -/

/-- The first result. -/
def first (y : S768x256.Idx) : EReal :=
  normed (Ideal.ofBits .f32 0x43800000#32) (Ideal.ofBits .f32 0x3727C5AC#32)
      (fun l => arg m c main_arg0 (ix3 0 (y 0) l)) (y 1)
    * arg m c main_arg5 (ix1 (y 1)) + arg m c main_arg6 (ix1 (y 1))

/-- An element of a row of 128, scaled as the kernel scales it, the products with ones left out. -/
def centred (r : Fin 128 → EReal) (k : Fin 128) : EReal :=
  (r k * Ideal.ofBits .f32 0x43000000#32 - ∑ l, r l)
    * Ideal.rsqrt ((∑ l, r l * r l) * Ideal.ofBits .f32 0x43000000#32 - (∑ l, r l) * (∑ l, r l)
        + Ideal.ofBits .f32 0x3E27C5AC#32)

/-- The second result. -/
def pairs (y : S768x768x128.Idx) : EReal :=
  centred (fun l => arg m c main_arg1 (ix4 0 (y 0) (y 1) l)) (y 2) * arg m c main_arg7 (ix1 (y 2))
    + ∑ n : Fin 16, inBin (distance (arg m c main_arg2) (y 0) (y 1))
        (if n.val < 15 then lower n.val else ((-1 : ℝ) : EReal)) (if n.val < 15 then upper n.val else ((huge : ℝ) : EReal))
      * weights (arg m c main_arg3) (arg m c main_arg4) (arg m c main_arg8) (ix2 n (y 2))

/-- Every row of the first result is written once, with `first`. -/
theorem array12 : (dats m 0 c).arrAt 12 cfg0.N = first m c := by
  refine (dats m 0 c).arrAt_eq_of_covers 12 _ (by decide +kernel) fun t hf y => ?_
  blk_simp
  obtain ⟨a, k, rfl⟩ : ∃ (a : Fin 24) (k : Fin 256), y = ix2 a k := ⟨y 0, y 1, eq_ix2 y⟩
  have e : ((win0_12.blk t).view.emb (ix2 a k) : S768x256.Idx) = ix2 (rowOf t a) k := by
    blk_ext [index12, rowOf, ix2]
  refine Eq.trans ?_ (congrArg (first m c) e).symm
  rw [after0_12, ← ix2_eq_valueIdx, out12_at]
  simp only [ix2_eq_valueIdx, block0, block7, block8]
  rfl

/-- Every row of the second result is written once, with `pairs`. -/
theorem array13 : (dats m 0 c).arrAt 13 cfg0.N = pairs m c := by
  refine (dats m 0 c).arrAt_eq_of_covers 13 _ (by decide +kernel) fun t hf y => ?_
  blk_simp
  obtain ⟨a, j, k, rfl⟩ : ∃ (a : Fin 24) (j : Fin 768) (k : Fin 128), y = ix3 a j k := ⟨y 0, y 1, y 2, eq_ix3 y⟩
  have e : ((win0_13.blk t).view.emb (ix3 a j k) : S768x768x128.Idx) = ix3 (rowOf t a) j k := by
    blk_ext [index13, rowOf, ix3]
  refine Eq.trans ?_ (congrArg (pairs m c) e).symm
  rw [after0_13, ← ix3_eq_valueIdx, out13_second]
  unfold second scaled
  have hd := distance_at m c t a j
  unfold colOf at hd
  simp only [pay3_at]
  simp only [ix1_eq_valueIdx, ix2_eq_valueIdx, ix3_eq_valueIdx, block1, block5, block6, block9, block10, block11, mul_one, hd]
  rfl

end Cert.KernelIdeal.Arrays

end
-- ==== Proof.Reference.lean ====
/- What the reference computes at one index of each of its two results. -/
module

public import proofs.«01_k».proof.Proof.Gen.ReferenceIdeal.Read
public import Idealize.ShloMosaic.Lib.ValueIdx
public import proofs.«01_k».proof.Proof.Consts
public import proofs.«01_k».proof.Proof.Forms

@[expose] public section

noncomputable section

namespace Cert.RefRead

open Idealize.ShloMosaic Idealize.ShloMosaic.ValueIdx Cert.ReferenceIdeal Cert.ReferenceIdeal.Gen Cert.ReferenceIdeal.Read Cert.Consts Cert.Forms

/-- An array of extended reals of shape `s`. -/
abbrev Arr (s : Shape) : Type := (⟨s, .f32⟩ : BufTy).Contents (Elt Ideal)

/-! ## The first result -/

/-- The mean that the first result subtracts. -/
theorem v3_at (x0 : Arr S1x768x256) (i : S1x768x1.Idx) :
    val_main_v3 (F := Ideal) x0 i
      = mean (Ideal.ofBits .f32 0x43800000#32) (fun k => x0 (ix3 0 (i 1) k)) := by
  rw [val_main_v3_apply, val_main_v1_apply, val_main_v0_apply, val_main_v2_apply, val_main_cst_1_apply,
    val_main_cst_0_apply]
  show Ideal.div (Ideal.ofBits .f32 0x00000000#32 + _) _ = _
  rw [ofBits_zero, zero_add]
  refine congrArg (fun s => Ideal.div s _) (Finset.sum_congr rfl fun k _ => congrArg x0 ?_)
  exact funext fun a => match a with | ⟨0, _⟩ => rfl | ⟨1, _⟩ => rfl | ⟨2, _⟩ => rfl

/-- The variance that the first result divides by. -/
theorem v10_at (x0 : Arr S1x768x256) (i : S1x768x1.Idx) :
    val_main_v10 (F := Ideal) x0 i
      = Ideal.div (∑ k : Fin 256, (x0 (ix3 0 (i 1) k) - mean (Ideal.ofBits .f32 0x43800000#32) (fun k => x0 (ix3 0 (i 1) k)))
          * (x0 (ix3 0 (i 1) k) - mean (Ideal.ofBits .f32 0x43800000#32) (fun k => x0 (ix3 0 (i 1) k))))
          (Ideal.ofBits .f32 0x43800000#32) := by
  rw [val_main_v10_apply, val_main_v8_apply, val_main_v7_apply, val_main_v9_apply, val_main_cst_3_apply,
    val_main_cst_2_apply]
  show Ideal.div (Ideal.ofBits .f32 0x00000000#32 + _) _ = _
  rw [ofBits_zero, zero_add]
  refine congrArg (fun s => Ideal.div s _) (Finset.sum_congr rfl fun k _ => ?_)
  rw [val_main_v6_apply, val_main_v5_apply, val_main_v4_apply, v3_at]
  have e : idx_main_v7 (idx_main_v8 i) k = ix3 0 (i 1) k :=
    funext fun a => match a with | ⟨0, _⟩ => rfl | ⟨1, _⟩ => rfl | ⟨2, _⟩ => rfl
  rw [e]
  rfl

/-- The first result is the normalised row of `m`, scaled and shifted. -/
theorem result1_at (x0 : Arr S1x768x256) (x5 x6 : Arr S256) (i : S1x768x256.Idx) :
    val_main_v23 (F := Ideal) x0 x5 x6 i
      = normed (Ideal.ofBits .f32 0x43800000#32) (Ideal.ofBits .f32 0x3727C5AC#32)
          (fun k => x0 (ix3 0 (i 1) k)) (i 2) * x5 (ix1 (i 2)) + x6 (ix1 (i 2)) := by
  rw [val_main_v23_apply, val_main_v20_apply, val_main_v17_apply, val_main_v12_apply, val_main_v11_apply, v3_at,
    val_main_v16_apply, val_main_v15_apply, val_main_v14_apply, v10_at, val_main_v13_apply, val_main_cst_4_apply,
    val_main_v19_apply, val_main_v18_apply, val_main_v22_apply, val_main_v21_apply]
  have e : i = ix3 0 (i 1) (i 2) := by
    funext a
    match a with
    | ⟨0, _⟩ => exact Fin.ext (by have := (i 0).isLt; simp at this; simpa using this)
    | ⟨1, _⟩ => rfl
    | ⟨2, _⟩ => rfl
  have e5 : idx_main_v18 (idx_main_v19 i) = ix1 (i 2) := funext fun a => match a with | ⟨0, _⟩ => rfl
  have e6 : idx_main_v21 (idx_main_v22 i) = ix1 (i 2) := funext fun a => match a with | ⟨0, _⟩ => rfl
  rw [e5, e6, congrArg x0 e]
  rfl

/-! ## The second result: the distance bins -/

/-- The squared distance of points `i 1` and `i 2`. -/
theorem v34_at (x2 : Arr S1x768x3) (i : S1x768x768.Idx) :
    val_main_v34 (F := Ideal) x2 i = dist2 (fun p k => x2 (ix3 0 p k)) (i 1) (i 2) := by
  rw [val_main_v34_apply, val_main_cst_7_apply]
  show Ideal.ofBits .f32 0x00000000#32 + _ = _
  rw [ofBits_zero, zero_add]
  refine Finset.sum_congr rfl fun k _ => ?_
  rw [val_main_v33_apply, val_main_v32_apply, val_main_v30_apply, val_main_v28_apply, val_main_v31_apply,
    val_main_v29_apply]
  have e1 : idx_main_v28 (idx_main_v30 (idx_main_v34 i k)) = ix3 0 (i 1) k :=
    funext fun a => match a with | ⟨0, _⟩ => rfl | ⟨1, _⟩ => rfl | ⟨2, _⟩ => rfl
  have e2 : idx_main_v29 (idx_main_v31 (idx_main_v34 i k)) = ix3 0 (i 2) k :=
    funext fun a => match a with | ⟨0, _⟩ => rfl | ⟨1, _⟩ => rfl | ⟨2, _⟩ => rfl
  rw [e1, e2]
  rfl

/-- The first fourteen points of the evenly spaced grid, `3.25 + 1.25 n`. -/
theorem grid_at (i : S14.Idx) :
    val_main_call0_v15 (F := Ideal) i = ((13 / 4 + 5 / 4 * ((i 0).val : ℝ) : ℝ) : EReal) := by
  have hn : (i 0).val < 14 := (i 0).isLt
  have h6 : val_main_call0_v6 (F := Ideal) i = (((i 0).val / 14 : ℝ) : EReal) := by
    rw [val_main_call0_v6_apply, val_main_call0_v5_apply, val_main_call0_cst_0_apply]
    show Ideal.div (((BitVec.ofNat 32 (i 0).val).toInt : ℝ) : EReal) (Ideal.ofBits .f32 0x41600000#32) = _
    have hi : (BitVec.ofNat 32 (i 0).val).toInt = ((i 0).val : Int) := by
      rw [_root_.BitVec.toInt_ofNat']
      exact Int.bmod_eq_of_le (by omega) (by omega)
    rw [hi, ofBits_14, Ideal.div_coe (by norm_num), ← EReal.coe_mul]
    congr 1
    push_cast
    ring
  rw [val_main_call0_v15_apply, val_main_call0_v11_apply, val_main_call0_v14_apply, val_main_call0_v9_apply,
    val_main_call0_v8_apply, val_main_call0_cst_1_apply, val_main_call0_v10_apply, val_main_call0_v13_apply, h6]
  show Ideal.ofBits .f32 0x40500000#32 * (Ideal.ofBits .f32 0x3F800000#32 - _) + Ideal.ofBits .f32 0x41A60000#32 * _ = _
  rw [ofBits_first, ofBits_last, ofBits_one, ← EReal.coe_one, ← EReal.coe_sub, ← EReal.coe_mul, ← EReal.coe_mul,
    ← EReal.coe_add]
  congr 1
  ring

/-- The squares of all fifteen grid points are the lower bounds of the bins. -/
theorem v25_at (i : S15.Idx) : val_main_v25 (F := Ideal) i = lower (i 0).val := by
  have h24 : val_main_v24 (F := Ideal) i = ((13 / 4 + 5 / 4 * ((i 0).val : ℝ) : ℝ) : EReal) := by
    have hn : (i 0).val < 15 := (i 0).isLt
    unfold val_main_v24
    by_cases h : (i 0).val < 14
    · rw [concatenate_pair_apply_left (s₁ := S14) (s₂ := S1) (0 : Fin S15.rank) _ _ Facts₀.concatenates_S14_S1_S15_d0 i rfl (ix1 ⟨(i 0).val, h⟩)
        (fun b => match b with | ⟨0, _⟩ => rfl), grid_at]
    · have h14 : (i 0).val = 14 := by omega
      rw [concatenate_pair_apply_right (s₁ := S14) (s₂ := S1) (0 : Fin S15.rank) _ _ Facts₀.concatenates_S14_S1_S15_d0 i rfl rfl (ix1 ⟨0, by decide⟩)
        (fun b hb => match b with | ⟨0, _⟩ => absurd rfl hb) (by show 0 + 14 = (i 0).val; omega),
        val_main_call0_v16_apply]
      show Ideal.ofBits .f32 0x41A60000#32 = _
      rw [ofBits_last, h14]
      congr 1
      norm_num
  rw [val_main_v25_apply, h24]
  show ((_ : ℝ) : EReal) * ((_ : ℝ) : EReal) = _
  rw [← EReal.coe_mul]
  rfl

/-- The upper bounds of the bins. -/
theorem v27_at (i : S15.Idx) : val_main_v27 (F := Ideal) i = upper (i 0).val := by
  have hn : (i 0).val < 15 := (i 0).isLt
  unfold val_main_v27 upper
  by_cases h : (i 0).val < 14
  · rw [concatenate_pair_apply_left (s₁ := S14) (s₂ := S1) (0 : Fin S15.rank) _ _ Facts₀.concatenates_S14_S1_S15_d0 i rfl (ix1 ⟨(i 0).val, h⟩)
      (fun b => match b with | ⟨0, _⟩ => rfl), val_main_v26_apply, v25_at, if_pos h]
    exact congrArg lower (Nat.add_comm 1 _)
  · rw [concatenate_pair_apply_right (s₁ := S14) (s₂ := S1) (0 : Fin S15.rank) _ _ Facts₀.concatenates_S14_S1_S15_d0 i rfl rfl (ix1 ⟨0, by decide⟩)
      (fun b hb => match b with | ⟨0, _⟩ => absurd rfl hb) (by show 0 + 14 = (i 0).val; omega), if_neg h]
    exact ofBits_1e8

/-- The indicator of bin `i 3` at points `i 1` and `i 2`. -/
theorem v46_at (x2 : Arr S1x768x3) (i : S1x768x768x15.Idx) :
    val_main_v46 (F := Ideal) x2 i
      = inBin (dist2 (fun p k => x2 (ix3 0 p k)) (i 1) (i 2)) (lower (i 3).val) (upper (i 3).val) := by
  rw [val_main_v46_apply, val_main_v45_apply, val_main_v39_apply, val_main_v44_apply, val_main_v37_apply,
    val_main_v35_apply, v34_at, val_main_v38_apply, val_main_v36_apply, v25_at, val_main_v42_apply,
    val_main_v40_apply, v34_at, val_main_v43_apply, val_main_v41_apply, v27_at]
  rfl

/-! ## The second result: the normalised rows of `z` -/

/-- The mean that the second result subtracts. -/
theorem v54_at (x1 : Arr S1x768x768x128) (i : S1x768x768x1.Idx) :
    val_main_v54 (F := Ideal) x1 i
      = mean (Ideal.ofBits .f32 0x43000000#32) (fun k => x1 (ix4 0 (i 1) (i 2) k)) := by
  rw [val_main_v54_apply, val_main_v52_apply, val_main_v51_apply, val_main_v53_apply, val_main_cst_9_apply,
    val_main_cst_8_apply]
  show Ideal.div (Ideal.ofBits .f32 0x00000000#32 + _) _ = _
  rw [ofBits_zero, zero_add]
  refine congrArg (fun s => Ideal.div s _) (Finset.sum_congr rfl fun k _ => congrArg x1 ?_)
  exact funext fun a => match a with | ⟨0, _⟩ => rfl | ⟨1, _⟩ => rfl | ⟨2, _⟩ => rfl | ⟨3, _⟩ => rfl

/-- The variance that the second result divides by. -/
theorem v61_at (x1 : Arr S1x768x768x128) (i : S1x768x768x1.Idx) :
    val_main_v61 (F := Ideal) x1 i
      = Ideal.div (∑ k : Fin 128,
          (x1 (ix4 0 (i 1) (i 2) k) - mean (Ideal.ofBits .f32 0x43000000#32) (fun k => x1 (ix4 0 (i 1) (i 2) k)))
          * (x1 (ix4 0 (i 1) (i 2) k) - mean (Ideal.ofBits .f32 0x43000000#32) (fun k => x1 (ix4 0 (i 1) (i 2) k))))
          (Ideal.ofBits .f32 0x43000000#32) := by
  rw [val_main_v61_apply, val_main_v59_apply, val_main_v58_apply, val_main_v60_apply, val_main_cst_11_apply,
    val_main_cst_10_apply]
  show Ideal.div (Ideal.ofBits .f32 0x00000000#32 + _) _ = _
  rw [ofBits_zero, zero_add]
  refine congrArg (fun s => Ideal.div s _) (Finset.sum_congr rfl fun k _ => ?_)
  rw [val_main_v57_apply, val_main_v56_apply, val_main_v55_apply, v54_at]
  have e : idx_main_v58 (idx_main_v59 i) k = ix4 0 (i 1) (i 2) k :=
    funext fun a => match a with | ⟨0, _⟩ => rfl | ⟨1, _⟩ => rfl | ⟨2, _⟩ => rfl | ⟨3, _⟩ => rfl
  rw [e]
  rfl

/-- The second result at points `i 1` and `i 2` and channel `i 3`: the bins' indicators times the weights, plus the
    bias, plus the normalised row of `z`, scaled and shifted. -/
theorem result2_at (x1 : Arr S1x768x768x128) (x2 : Arr S1x768x3) (x3 : Arr S128x15) (x4 x7 x8 : Arr S128)
    (i : S1x768x768x128.Idx) :
    val_main_v75 (F := Ideal) x1 x2 x3 x4 x7 x8 i
      = (∑ n : Fin 15, inBin (dist2 (fun p k => x2 (ix3 0 p k)) (i 1) (i 2)) (lower n.val) (upper n.val)
            * x3 (ix2 (i 3) n) + x4 (ix1 (i 3)))
        + (normed (Ideal.ofBits .f32 0x43000000#32) (Ideal.ofBits .f32 0x3727C5AC#32)
            (fun k => x1 (ix4 0 (i 1) (i 2) k)) (i 3) * x7 (ix1 (i 3)) + x8 (ix1 (i 3))) := by
  rw [val_main_v75_apply, val_main_v50_apply, val_main_v47_apply, val_main_v49_apply, val_main_v48_apply,
    val_main_v74_apply, val_main_v71_apply, val_main_v68_apply, val_main_v63_apply, val_main_v62_apply, v54_at,
    val_main_v67_apply, val_main_v66_apply, val_main_v65_apply, v61_at, val_main_v64_apply, val_main_cst_12_apply,
    val_main_v70_apply, val_main_v69_apply, val_main_v73_apply, val_main_v72_apply]
  have e : i = ix4 0 (i 1) (i 2) (i 3) := by
    funext a
    match a with
    | ⟨0, _⟩ => exact Fin.ext (by have := (i 0).isLt; simp at this; simpa using this)
    | ⟨1, _⟩ => rfl
    | ⟨2, _⟩ => rfl
    | ⟨3, _⟩ => rfl
  have e4 : idx_main_v48 (idx_main_v49 i) = ix1 (i 3) := funext fun a => match a with | ⟨0, _⟩ => rfl
  have e7 : idx_main_v69 (idx_main_v70 i) = ix1 (i 3) := funext fun a => match a with | ⟨0, _⟩ => rfl
  have e8 : idx_main_v72 (idx_main_v73 i) = ix1 (i 3) := funext fun a => match a with | ⟨0, _⟩ => rfl
  have es : ∀ n : Fin 15, val_main_v46 (F := Ideal) x2 (lidx_main_v47 i n) * x3 (ridx_main_v47 i n)
      = inBin (dist2 (fun p k => x2 (ix3 0 p k)) (i 1) (i 2)) (lower n.val) (upper n.val) * x3 (ix2 (i 3) n) := fun n => by
    have e3 : ridx_main_v47 i n = ix2 (i 3) n := funext fun a => match a with | ⟨0, _⟩ => rfl | ⟨1, _⟩ => rfl
    rw [v46_at, e3]
    rfl
  rw [e4, e7, e8, congrArg x1 e, Finset.sum_congr rfl fun n _ => es n]
  rfl

end Cert.RefRead

end
-- ==== Proof.Algebra.lean ====
/- The equations on extended reals between what the kernel computes at one element and what the reference
   computes there. No program is named here. -/
module

public import Idealize.ShloMosaic.PureOps.Ideal
public import proofs.«01_k».proof.Proof.Consts

@[expose] public section

noncomputable section

namespace Cert.Algebra

open Idealize.ShloMosaic Cert.Consts

/-- A finite sum of reals, taken among the extended reals, is the real sum. -/
theorem coe_sum {n : Nat} (f : Fin n → ℝ) : ((∑ k, f k : ℝ) : EReal) = ∑ k, (f k : EReal) := by
  induction n with
  | zero => simp
  | succ n ih => rw [Fin.sum_univ_castSucc, Fin.sum_univ_castSucc, EReal.coe_add, ih]

/-- Dividing a real by 128. -/
theorem div_128 (x : ℝ) : Ideal.div (x : EReal) ((128 : ℝ) : EReal) = ((x / 128 : ℝ) : EReal) := by
  rw [Ideal.div_coe (by norm_num), ← EReal.coe_mul, mul_one_div]

/-- The reciprocal square root of a positive real. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- `eps` is positive. -/
theorem eps_pos : 0 < eps := by unfold eps; norm_num

/-- 128 times the sum of the squares, less the square of the sum, is 128 squared times the variance. -/
theorem variance_scaled (z : Fin 128 → ℝ) :
    (∑ j, z j * z j) * 128 - (∑ j, z j) * (∑ j, z j)
      = 16384 * ((∑ j, (z j - (∑ i, z i) / 128) * (z j - (∑ i, z i) / 128)) / 128) := by
  set s := ∑ i, z i with hs
  have h : ∀ j, (z j - s / 128) * (z j - s / 128) = z j * z j - (s / 64) * z j + s / 128 * (s / 128) := fun j => by ring
  simp only [h, Finset.sum_add_distrib, Finset.sum_sub_distrib, ← Finset.mul_sum, ← hs, Finset.sum_const,
    Finset.card_univ, Fintype.card_fin, nsmul_eq_mul]
  push_cast
  ring

/-- The kernel's normalisation of a finite row, which scales the row by 128 and never divides, equals the
    normalisation by mean and variance. -/
theorem norm_scaled (z : Fin 128 → ℝ) (k : Fin 128) :
    ((z k : EReal) * ((128 : ℝ) : EReal) - ∑ j, (z j : EReal))
        * Ideal.rsqrt ((∑ j, (z j : EReal) * (z j : EReal)) * ((128 : ℝ) : EReal)
            - (∑ j, (z j : EReal)) * (∑ j, (z j : EReal)) + ((16384 * eps : ℝ) : EReal))
      = ((z k : EReal) - Ideal.div (∑ j, (z j : EReal)) ((128 : ℝ) : EReal))
        * Ideal.rsqrt (Ideal.div (∑ j, ((z j : EReal) - Ideal.div (∑ i, (z i : EReal)) ((128 : ℝ) : EReal))
            * ((z j : EReal) - Ideal.div (∑ i, (z i : EReal)) ((128 : ℝ) : EReal))) ((128 : ℝ) : EReal)
            + ((eps : ℝ) : EReal)) := by
  set v : ℝ := (∑ j, (z j - (∑ i, z i) / 128) * (z j - (∑ i, z i) / 128)) / 128 with hv
  have hv0 : 0 ≤ v := div_nonneg (Finset.sum_nonneg fun j _ => mul_self_nonneg _) (by norm_num)
  have hve : 0 < v + eps := add_pos_of_nonneg_of_pos hv0 eps_pos
  have hu : (∑ j, z j * z j) * 128 - (∑ j, z j) * (∑ j, z j) + 16384 * eps = 128 ^ 2 * (v + eps) := by
    rw [variance_scaled, ← hv]; ring
  simp only [← coe_sum, ← EReal.coe_mul, ← EReal.coe_sub, ← EReal.coe_add, div_128]
  rw [hu, ← hv, rsqrt_pos (by positivity), rsqrt_pos hve, ← EReal.coe_mul, ← EReal.coe_mul,
    Real.sqrt_mul (by norm_num), Real.sqrt_sq (by norm_num)]
  congr 1
  rw [mul_inv]
  ring

/-- The same equation for a row of extended reals that are all finite. -/
theorem norm_scaled_of_finite (z : Fin 128 → EReal) (h : ∀ j, z j ≠ ⊤ ∧ z j ≠ ⊥) (k : Fin 128) :
    (z k * ((128 : ℝ) : EReal) - ∑ j, z j)
        * Ideal.rsqrt ((∑ j, z j * z j) * ((128 : ℝ) : EReal) - (∑ j, z j) * (∑ j, z j) + ((16384 * eps : ℝ) : EReal))
      = (z k - Ideal.div (∑ j, z j) ((128 : ℝ) : EReal))
        * Ideal.rsqrt (Ideal.div (∑ j, (z j - Ideal.div (∑ i, z i) ((128 : ℝ) : EReal))
            * (z j - Ideal.div (∑ i, z i) ((128 : ℝ) : EReal))) ((128 : ℝ) : EReal) + ((eps : ℝ) : EReal)) := by
  have hz : z = fun j => ((z j).toReal : EReal) := funext fun j => (EReal.coe_toReal (h j).1 (h j).2).symm
  rw [hz]
  exact norm_scaled (fun j => (z j).toReal) k

/-- A sum over eight rows of which the last five vanish is the sum over the first three. -/
theorem sum_eight (f : Fin 8 → EReal) (h : ∀ k : Fin 8, 3 ≤ k.val → f k = 0) :
    ∑ k, f k = ∑ k : Fin 3, f (Fin.castLE (by decide) k) := by
  rw [Fin.sum_univ_eight, Fin.sum_univ_three, h 3 (by decide), h 4 (by decide), h 5 (by decide), h 6 (by decide),
    h 7 (by decide)]
  simp only [add_zero]
  rfl

/-- The squared distance of two points with coordinates of at most `far` is a real between `0` and below `huge`. -/
theorem distance_bounds (a b : Fin 3 → EReal) (ha : ∀ k, a k ≤ (far : EReal) ∧ -(a k) ≤ (far : EReal))
    (hb : ∀ k, b k ≤ (far : EReal) ∧ -(b k) ≤ (far : EReal)) :
    ((-1 : ℝ) : EReal) < ∑ k, (a k - b k) * (a k - b k) ∧ ∑ k, (a k - b k) * (a k - b k) < ((huge : ℝ) : EReal) := by
  have key : ∀ x : EReal, x ≤ (far : EReal) ∧ -x ≤ (far : EReal) → ∃ r : ℝ, x = r ∧ |r| ≤ far := by
    intro x hx
    induction x with
    | bot => simp at hx
    | top => simp at hx
    | coe r =>
      refine ⟨r, rfl, abs_le.mpr ⟨?_, EReal.coe_le_coe_iff.mp hx.1⟩⟩
      have h2 := hx.2
      rw [← EReal.coe_neg, EReal.coe_le_coe_iff] at h2
      linarith
  choose p hp hp' using fun k => key (a k) (ha k)
  choose q hq hq' using fun k => key (b k) (hb k)
  simp only [hp, hq, ← EReal.coe_sub, ← EReal.coe_mul, ← coe_sum, EReal.coe_lt_coe_iff]
  have hk : ∀ k, (p k - q k) * (p k - q k) ≤ (2 * far) * (2 * far) := fun k => by
    have h : |p k - q k| ≤ 2 * far := (abs_sub _ _).trans (by linarith [hp' k, hq' k])
    rw [← abs_mul_abs_self]
    exact mul_self_le_mul_self (abs_nonneg _) h
  constructor
  · exact lt_of_lt_of_le (by norm_num) (Finset.sum_nonneg fun k _ => mul_self_nonneg _)
  · refine lt_of_le_of_lt (Finset.sum_le_sum fun k _ => hk k) ?_
    simp only [Finset.sum_const, Finset.card_univ, Fintype.card_fin, nsmul_eq_mul]
    unfold far huge
    norm_num

/-- The kernel adds the normalised value to sixteen products of which the last is the two biases; the reference
    adds the biases to fifteen products and to the normalised value. -/
theorem sum_biases (f w : Fin 16 → EReal) (n b l : EReal) (hf : f 15 = 1) (hw : w 15 = b + l) :
    n + ∑ k, f k * w k = (∑ k : Fin 15, f k.castSucc * w k.castSucc + b) + (n + l) := by
  rw [Fin.sum_univ_castSucc, show (Fin.last 15 : Fin 16) = 15 from rfl, hf, hw, one_mul]
  abel

end Cert.Algebra

end
-- ==== Proof.Equation.lean ====
/- The equation: the kernel's two results, index by index, are the reference's. -/
module

public import proofs.«01_k».proof.Proof.Arrays
public import proofs.«01_k».proof.Proof.Reference
public import proofs.«01_k».proof.Proof.Algebra
public import proofs.«01_k».proof.Pre_tame

@[expose] public section

noncomputable section

namespace Cert.KernelIdeal.Equation

open Idealize.ShloMosaic hiding ix1 ix2 ix3 ix4 eq_ix2 eq_ix3
open Idealize.ShloMosaic.TcCoe Idealize.ShloMosaic.Tactic Idealize.ShloMosaic.ValueIdx
open Cert.KernelIdeal.Gen Cert.KernelIdeal.Host Cert.KernelIdeal.Arrays Cert.Consts Cert.Forms

variable (m : (ℓ : Loc nD τ sig) → Buf (Elt Ideal) ℓ) (c : Dev nD)

/-! ## The results, from the arrays: the host lines after the region -/

/-- Adding a leading unit axis to a matrix. -/
theorem add2 {a b : Nat} {α : Type} (x : (⟨2, ![a, b]⟩ : Shape).Idx → α) (h) (i : (⟨3, ![1, a, b]⟩ : Shape).Idx) :
    shapeCast ⟨3, ![1, a, b]⟩ x h i = x (ix2 (i 1) (i 2)) := by
  refine shapeCast_apply _ _ _ _ ?_
  rw [Shape.rowMajor_val_three, Shape.rowMajor_val_two]
  have h0 : (i 0).val = 0 := Nat.lt_one_iff.mp (i 0).isLt
  show (i 1).val * b + (i 2).val = ((i 0).val * a + (i 1).val) * b + (i 2).val
  rw [h0, Nat.zero_mul, Nat.zero_add]

/-- Adding a leading unit axis to an array of rank three. -/
theorem add3 {a b d : Nat} {α : Type} (x : (⟨3, ![a, b, d]⟩ : Shape).Idx → α) (h) (i : (⟨4, ![1, a, b, d]⟩ : Shape).Idx) :
    shapeCast ⟨4, ![1, a, b, d]⟩ x h i = x (ix3 (i 1) (i 2) (i 3)) := by
  refine shapeCast_apply _ _ _ _ ?_
  rw [Shape.rowMajor_val_three, Shape.rowMajor_val_four]
  have h0 : (i 0).val = 0 := Nat.lt_one_iff.mp (i 0).isLt
  show ((i 1).val * b + (i 2).val) * d + (i 3).val = (((i 0).val * a + (i 1).val) * b + (i 2).val) * d + (i 3).val
  rw [h0, Nat.zero_mul, Nat.zero_add]

/-- What the lines after the region leave in the first result. -/
theorem tail36 : Pipeline.afterTail₀ cfgs (dats m) 0 (V0 m) [hostOps1] c main_v36
    = fun i : S1x768x256.Idx => first m c (ix2 (i 1) (i 2)) := by
  have e : Pipeline.withArrays spec0 c (V0 m c) (fun w => (dats m 0 c).arrAt w cfg0.N) (Proc.devRef .tc main_v35_0)
      = first m c := (Pipeline.withArrays_arr spec0 (by decide) c (V0 m c) _ 12).trans (array12 m c)
  dsimp only [Pipeline.afterTail₀, hostOps1, List.flatten_cons, List.flatten_nil, List.append_nil, List.cons_append, List.nil_append]
  after_results
  exact funext fun i => (congrArg (fun x : S768x256.Idx → EReal => shapeCast S1x768x256 x shapeCasts_S768x256_S1x768x256 i) e).trans
    (add2 (first m c) _ i)

/-- What the lines after the region leave in the second result. -/
theorem tail37 : Pipeline.afterTail₀ cfgs (dats m) 0 (V0 m) [hostOps1] c main_v37
    = fun i : S1x768x768x128.Idx => pairs m c (ix3 (i 1) (i 2) (i 3)) := by
  have e : Pipeline.withArrays spec0 c (V0 m c) (fun w => (dats m 0 c).arrAt w cfg0.N) (Proc.devRef .tc main_v35_1)
      = pairs m c := (Pipeline.withArrays_arr spec0 (by decide) c (V0 m c) _ 13).trans (array13 m c)
  dsimp only [Pipeline.afterTail₀, hostOps1, List.flatten_cons, List.flatten_nil, List.append_nil, List.cons_append, List.nil_append]
  after_results
  exact funext fun i => (congrArg (fun x : S768x768x128.Idx → EReal =>
    shapeCast S1x768x768x128 x shapeCasts_S768x768x128_S1x768x768x128 i) e).trans (add3 (pairs m c) _ i)

/-! ## The precondition -/

/-- The side conditions of the precondition's text. -/
instance tameFacts : Cert.Pre_tame.Facts := ⟨by decide, by decide⟩

/-- A bit made of a decided proposition is one exactly when the proposition holds. -/
theorem of_bit {p : Prop} [Decidable p] (h : BitVec.ofBool (decide p) = 1#1) : p := by
  by_contra hn
  rw [decide_eq_false hn] at h
  exact absurd h (by decide)

/-- Every element is finite. -/
def Finite (x : Arr S1x768x768x128) : Prop := ∀ i, x i ≠ ⊤ ∧ x i ≠ ⊥

/-- Every coordinate is at most `far`, in absolute value. -/
def Near (x : Arr S1x768x3) : Prop := ∀ i, x i ≤ ((far : ℝ) : EReal) ∧ -(x i) ≤ ((far : ℝ) : EReal)

section Tame

variable {x0 : FVec Ideal S1x768x256 .f32} {x1 : FVec Ideal S1x768x768x128 .f32} {x2 : FVec Ideal S1x768x3 .f32}
  {x3 : FVec Ideal S128x15 .f32} {x4 : FVec Ideal S128 .f32} {x5 x6 : FVec Ideal S256 .f32} {x7 x8 : FVec Ideal S128 .f32}

/-- The first part of the precondition: the pair features are finite. -/
theorem finite_of_tame (h : (Cert.Pre_tame.fn (F := Ideal) x0 x1 x2 x3 x4 x5 x6 x7 x8).1 = fun _ => 1#1) :
    Finite x1 := by
  intro i
  have h1 : BitVec.ofBool (decide (max (x1 i) (-(x1 i)) < Ideal.ofBits .f32 0x7F800000#32)) = 1#1 := congrFun h i
  have h2 := of_bit h1
  rw [ofBits_top, max_lt_iff] at h2
  refine ⟨h2.1.ne, fun e => ?_⟩
  rw [e] at h2
  exact h2.2.ne EReal.neg_bot

/-- The second part of the precondition: the coordinates are bounded. -/
theorem near_of_tame (h : (Cert.Pre_tame.fn (F := Ideal) x0 x1 x2 x3 x4 x5 x6 x7 x8).2 = fun _ => 1#1) :
    Near x2 := by
  intro i
  have h1 : BitVec.ofBool (decide (max (x2 i) (-(x2 i)) ≤ Ideal.ofBits .f32 0x56B5E621#32)) = 1#1 := congrFun h i
  have h2 := of_bit h1
  rw [ofBits_far, max_le_iff] at h2
  exact h2

end Tame

/-! ## The first result -/

/-- Both sides normalise the rows of the first argument by the same text. -/
theorem first_eq (i : S1x768x256.Idx) :
    first m c (ix2 (i 1) (i 2))
      = Cert.ReferenceIdeal.Read.val_main_v23 (F := Ideal) (arg m c main_arg0) (arg m c main_arg5) (arg m c main_arg6) i :=
  (Cert.RefRead.result1_at (arg m c main_arg0) (arg m c main_arg5) (arg m c main_arg6) i).symm

/-! ## The second result -/

/-- The padded coordinates give the squared distance of the three real ones. -/
theorem distance_eq (x : Arr S1x768x3) (p q : Fin 768) :
    distance x p q = dist2 (fun p k => x (ix3 0 p k)) p q := by
  unfold distance dist2
  rw [Cert.Algebra.sum_eight]
  · refine Finset.sum_congr rfl fun k _ => ?_
    have hk : (Fin.castLE (by decide : 3 ≤ 8) k).val < 3 := k.isLt
    rw [padded_at, padded_at, dif_pos hk, dif_pos hk]
    rfl
  · intro k hk
    rw [padded_at, padded_at, dif_neg (not_lt.mpr hk), dif_neg (not_lt.mpr hk), sub_zero, mul_zero]

/-- The kernel's scaling of a row of finite numbers is the normalisation. -/
theorem centred_eq (r : Fin 128 → EReal) (h : ∀ k, r k ≠ ⊤ ∧ r k ≠ ⊥) (k : Fin 128) :
    centred r k = normed (Ideal.ofBits .f32 0x43000000#32) (Ideal.ofBits .f32 0x3727C5AC#32) r k := by
  unfold centred normed mean
  rw [ofBits_128, ofBits_eps, ofBits_eps_scaled]
  exact Cert.Algebra.norm_scaled_of_finite r h k

/-- A number strictly between the bounds is counted. -/
theorem inBin_one {d lo hi : EReal} (h1 : lo < d) (h2 : d < hi) : inBin d lo hi = 1 := by
  unfold inBin Ideal.cmp
  simp only [h1, h2, decide_true]
  have e : (IntOp.andi (BitVec.ofBool true) (BitVec.ofBool true)).toNat = 1 := by decide
  rw [e]
  norm_num

/-- The equation of the second result at one index: fifteen indicators against the weights, the sixteenth, always one,
    against the two biases. -/
theorem pairs_value (x1 : Arr S1x768x768x128) (x2 : Arr S1x768x3) (x3 : Arr S128x15) (x4 x7 x8 : Arr S128)
    (hz : Finite x1) (hx : Near x2)
    (p q : Fin 768) (k : Fin 128) :
    centred (fun l => x1 (ix4 0 p q l)) k * x7 (ix1 k)
      + ∑ n : Fin 16, inBin (distance x2 p q)
          (if n.val < 15 then lower n.val else ((-1 : ℝ) : EReal)) (if n.val < 15 then upper n.val else ((huge : ℝ) : EReal))
        * weights x3 x4 x8 (ix2 n k)
      = (∑ n : Fin 15, inBin (dist2 (fun p k => x2 (ix3 0 p k)) p q) (lower n.val) (upper n.val) * x3 (ix2 k n) + x4 (ix1 k))
        + (normed (Ideal.ofBits .f32 0x43000000#32) (Ideal.ofBits .f32 0x3727C5AC#32) (fun l => x1 (ix4 0 p q l)) k
            * x7 (ix1 k) + x8 (ix1 k)) := by
  rw [distance_eq, centred_eq _ (fun l => hz _)]
  have hb : ((-1 : ℝ) : EReal) < dist2 (fun p k => x2 (ix3 0 p k)) p q ∧ dist2 (fun p k => x2 (ix3 0 p k)) p q < ((huge : ℝ) : EReal) :=
    Cert.Algebra.distance_bounds (fun k => x2 (ix3 0 p k)) (fun k => x2 (ix3 0 q k)) (fun k => hx _) (fun k => hx _)
  refine (Cert.Algebra.sum_biases (fun n : Fin 16 => inBin (dist2 (fun p k => x2 (ix3 0 p k)) p q)
      (if n.val < 15 then lower n.val else ((-1 : ℝ) : EReal)) (if n.val < 15 then upper n.val else ((huge : ℝ) : EReal)))
    (fun n => weights x3 x4 x8 (ix2 n k)) _ (x4 (ix1 k)) (x8 (ix1 k)) (inBin_one hb.1 hb.2)
    ((weights_at x3 x4 x8 15 k).trans (dif_neg (by decide)))).trans ?_
  refine congrArg (· + _) (congrArg (· + _) (Finset.sum_congr rfl fun n _ => ?_))
  have hn : n.castSucc.val < 15 := n.isLt
  show inBin _ (if n.castSucc.val < 15 then lower n.castSucc.val else _) (if n.castSucc.val < 15 then upper n.castSucc.val else _)
    * weights x3 x4 x8 (ix2 n.castSucc k) = _
  rw [weights_at, dif_pos hn, if_pos hn, if_pos hn]
  rfl

/-- Under the precondition the second result is the reference's. -/
theorem pairs_eq (hz : Finite (arg m c main_arg1)) (hx : Near (arg m c main_arg2))
    (i : S1x768x768x128.Idx) :
    pairs m c (ix3 (i 1) (i 2) (i 3))
      = Cert.ReferenceIdeal.Read.val_main_v75 (F := Ideal) (arg m c main_arg1) (arg m c main_arg2) (arg m c main_arg3)
          (arg m c main_arg4) (arg m c main_arg7) (arg m c main_arg8) i :=
  (pairs_value (arg m c main_arg1) (arg m c main_arg2) (arg m c main_arg3) (arg m c main_arg4) (arg m c main_arg7)
    (arg m c main_arg8) hz hx (i 1) (i 2) (i 3)).trans
  (Cert.RefRead.result2_at (arg m c main_arg1) (arg m c main_arg2) (arg m c main_arg3) (arg m c main_arg4)
    (arg m c main_arg7) (arg m c main_arg8) i).symm

end Cert.KernelIdeal.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem
open Cert.KernelIdeal.Gen Cert.KernelIdeal.Arrays Cert.KernelIdeal.Equation

/-- The reference runs, leaves its arguments alone, and has no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The idealized kernel's run, its two results read. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v36)
            = Pipeline.afterTail₀ Cert.KernelIdeal.cfgs (dats m) 0 (V0 m) [hostOps1] c Cert.KernelIdeal.main_v36
        ∧ r.2.mem ((c.tc : Thread Cert.KernelIdeal.nD Cert.KernelIdeal.τ).loc Cert.KernelIdeal.main_v37)
            = Pipeline.afterTail₀ Cert.KernelIdeal.cfgs (dats m) 0 (V0 m) [hostOps1] c Cert.KernelIdeal.main_v37) :=
  (θ_run _ _ _).mono (fun _ h c => ⟨h.rest_eq c Cert.KernelIdeal.main_v36 (by decide), h.rest_eq c Cert.KernelIdeal.main_v37 (by decide)⟩)
    (run_main m g)

/-- The two results agree. -/
theorem algebraic : Cert.algebraic_KernelIdeal_ReferenceIdeal_pre_tame := by
  intro m g m' g' hpre hagree
  refine ⟨fun c => Pipeline.afterTail₀ Cert.KernelIdeal.cfgs (dats m) 0 (V0 m) [hostOps1] c Cert.KernelIdeal.main_v36,
    fun c => Pipeline.afterTail₀ Cert.KernelIdeal.cfgs (dats m) 0 (V0 m) [hostOps1] c Cert.KernelIdeal.main_v37, ?_, ?_⟩
  · exact (θ_run _ _ _).mono (fun r h c => ⟨(h.1 c).1, (h.1 c).2, h.2 c⟩) (θ_run_and (kernel_run m g) (unchanged m g))
  · refine (θ_run _ _ _).mono (fun r h c => ⟨(h c).1.trans ?_, (h c).2.1.trans ?_, (h c).2.2⟩)
      (Cert.ReferenceIdeal.Value.run (F := Ideal) m' g')
    · obtain ⟨h0, -, -, -, -, h5, h6, -, -⟩ := hagree c
      refine (Cert.ReferenceIdeal.Read.val_main_v23_eq _ _ _).trans (Eq.trans ?_ (tail36 m c).symm)
      rw [h0, h5, h6]
      exact funext fun i => (first_eq m c i).symm
    · obtain ⟨-, h1, h2, h3, h4, -, -, h7, h8⟩ := hagree c
      refine (Cert.ReferenceIdeal.Read.val_main_v75_eq m' c).trans (Eq.trans ?_ (tail37 m c).symm)
      rw [h1, h2, h3, h4, h7, h8]
      exact funext fun i => (pairs_eq m c (finite_of_tame (hpre c).1) (near_of_tame (hpre c).2) i).symm

/-- Everything the certificate claims. -/
theorem claim : Cert.Claim := ⟨Cert.Kernel.Gen.facts, Cert.KernelIdeal.Gen.facts, Cert.ReferenceIdeal.Gen.facts, tameFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
